-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x128x7168 : Shape := ⟨3, ![2, 128, 7168]⟩
abbrev S7168 : Shape := ⟨1, ![7168]⟩
abbrev S18432x3584 : Shape := ⟨2, ![18432, 3584]⟩
abbrev S18432x224 : Shape := ⟨2, ![18432, 224]⟩
abbrev S18432 : Shape := ⟨1, ![18432]⟩
abbrev S256x7168 : Shape := ⟨2, ![256, 7168]⟩
abbrev S_ : Shape := ⟨0, ![]⟩
abbrev S256 : Shape := ⟨1, ![256]⟩
abbrev S256x1 : Shape := ⟨2, ![256, 1]⟩
abbrev S1x7168 : Shape := ⟨2, ![1, 7168]⟩
abbrev S8 : Shape := ⟨1, ![8]⟩
abbrev S18432x224x1 : Shape := ⟨3, ![18432, 224, 1]⟩
abbrev S1x1x8 : Shape := ⟨3, ![1, 1, 8]⟩
abbrev S18432x224x8 : Shape := ⟨3, ![18432, 224, 8]⟩

class Facts : Prop where
  shapeCasts_S2x128x7168_S256x7168 : S2x128x7168.ShapeCasts S256x7168
  bitsLt_bf16_f32 : FTy.bits .bf16 < FTy.bits .f32
  reducesTo_S256x7168_S256_d1 : S256x7168.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x7168_0_1 : S256x1.BroadcastsInDim S256x7168 (![0, 1] : Fin 2 → Fin S256x7168.rank)
  shapeCasts_S7168_S1x7168 : S7168.ShapeCasts S1x7168
  bcast_S1x7168_S256x7168_0_1 : S1x7168.BroadcastsInDim S256x7168 (![0, 1] : Fin 2 → Fin S256x7168.rank)
  reducesTo_S256x1_S_d0_1 : S256x1.ReducesTo [0, 1] S_
  bcast_S18432x224_S18432x224x1_0_1 : S18432x224.BroadcastsInDim S18432x224x1 (![0, 1] : Fin 2 → Fin S18432x224x1.rank)
  bcast_S_S8 : S_.BroadcastsInDim S8 (![] : Fin 0 → Fin S8.rank)
  bcast_S8_S1x1x8_2 : S8.BroadcastsInDim S1x1x8 (![2] : Fin 1 → Fin S1x1x8.rank)
  bcast_S18432x224x1_S18432x224x8_0_1_2 : S18432x224x1.BroadcastsInDim S18432x224x8 (![0, 1, 2] : Fin 3 → Fin S18432x224x8.rank)
  bcast_S1x1x8_S18432x224x8_0_1_2 : S1x1x8.BroadcastsInDim S18432x224x8 (![0, 1, 2] : Fin 3 → Fin S18432x224x8.rank)
  bcast_S_S18432x224x8 : S_.BroadcastsInDim S18432x224x8 (![] : Fin 0 → Fin S18432x224x8.rank)
  reducesTo_S18432x224x8_S_d0_1_2 : S18432x224x8.ReducesTo [0, 1, 2] S_

variable [Facts]

def fn_part2 {F : FTy → Type} [FloatOps F] (main_v28 : IVec S_ 1) (main_v29 : IVec S8 32) (main_v30 : IVec S18432x224x1 32) (main_v36 : IVec S18432x224x8 32) (main_c_8 : IVec S_ 32) : IVec S_ 1 :=
  let main_v37 : IVec S18432x224x8 32 := broadcastInDim S18432x224x8 ![] bcast_S_S18432x224x8 main_c_8
  let main_v38 : IVec S18432x224x8 32 := andi main_v36 main_v37
  let main_c_9 : IVec S_ 32 := constantI S_ 32 4#32
  let main_v39 : IVec S8 32 := broadcastInDim S8 ![] bcast_S_S8 main_c_9
  let main_v40 : IVec S8 32 := muli main_v39 main_v29
  let main_c_10 : IVec S_ 32 := constantI S_ 32 2#32
  let main_v41 : IVec S8 32 := broadcastInDim S8 ![] bcast_S_S8 main_c_10
  let main_v42 : IVec S8 32 := addi main_v40 main_v41
  let main_v43 : IVec S1x1x8 32 := broadcastInDim S1x1x8 ![2] bcast_S8_S1x1x8_2 main_v42
  let main_v44 : IVec S18432x224x8 32 := broadcastInDim S18432x224x8 ![0, 1, 2] bcast_S18432x224x1_S18432x224x8_0_1_2 main_v30
  let main_v45 : IVec S18432x224x8 32 := broadcastInDim S18432x224x8 ![0, 1, 2] bcast_S1x1x8_S18432x224x8_0_1_2 main_v43
  let main_v46 : IVec S18432x224x8 32 := Host.shrsi main_v44 main_v45
  let main_c_11 : IVec S_ 32 := constantI S_ 32 3#32
  let main_v47 : IVec S18432x224x8 32 := broadcastInDim S18432x224x8 ![] bcast_S_S18432x224x8 main_c_11
  let main_v48 : IVec S18432x224x8 32 := andi main_v46 main_v47
  let main_v49 : IVec S18432x224x8 1 := cmpi .slt main_v38 main_v48
  let main_c_12 : IVec S_ 1 := constantI S_ 1 1#1
  let main_v50 : IVec S_ 1 := (fun x v => Host.reduce IntOp.andi x v reducesTo_S18432x224x8_S_d0_1_2 h_S_) main_v49 main_c_12
  let main_v51 : IVec S_ 1 := andi main_v28 main_v50
  main_v51

def fn_part1 {F : FTy → Type} [FloatOps F] (main_arg3 : IVec S18432x224 32) (main_v17 : FVec F S256x1 .f32) (main_v18 : FVec F S256x1 .f32) : IVec S_ 1 :=
  let main_v19 : FVec F S256x1 .f32 := mulf main_v17 main_v18
  let main_cst_4 : FVec F S_ .f32 := constant S_ .f32 0x00000000#32
  let main_v20 : FVec F S256x1 .f32 := broadcastInDim S256x1 ![] bcast_S_S256x1 main_cst_4
  let main_v21 : IVec S256x1 1 := cmpf .oeq main_v19 main_v20
  let main_cst_5 : FVec F S_ .f32 := constant S_ .f32 0x00800000#32
  let main_v22 : FVec F S256x1 .f32 := broadcastInDim S256x1 ![] bcast_S_S256x1 main_cst_5
  let main_v23 : IVec S256x1 1 := cmpf .oge main_v19 main_v22
  let main_cst_6 : FVec F S_ .f32 := constant S_ .f32 0x7E800000#32
  let main_v24 : FVec F S256x1 .f32 := broadcastInDim S256x1 ![] bcast_S_S256x1 main_cst_6
  let main_v25 : IVec S256x1 1 := cmpf .olt main_v19 main_v24
  let main_v26 : IVec S256x1 1 := andi main_v23 main_v25
  let main_v27 : IVec S256x1 1 := ori main_v21 main_v26
  let main_c : IVec S_ 1 := constantI S_ 1 1#1
  let main_v28 : IVec S_ 1 := (fun x v => Host.reduce IntOp.andi x v reducesTo_S256x1_S_d0_1 h_S_) main_v27 main_c
  let main_v29 : IVec S8 32 := iotaInDim S8 32 0
  let main_v30 : IVec S18432x224x1 32 := broadcastInDim S18432x224x1 ![0, 1] bcast_S18432x224_S18432x224x1_0_1 main_arg3
  let main_c_7 : IVec S_ 32 := constantI S_ 32 4#32
  let main_v31 : IVec S8 32 := broadcastInDim S8 ![] bcast_S_S8 main_c_7
  let main_v32 : IVec S8 32 := muli main_v31 main_v29
  let main_v33 : IVec S1x1x8 32 := broadcastInDim S1x1x8 ![2] bcast_S8_S1x1x8_2 main_v32
  let main_v34 : IVec S18432x224x8 32 := broadcastInDim S18432x224x8 ![0, 1, 2] bcast_S18432x224x1_S18432x224x8_0_1_2 main_v30
  let main_v35 : IVec S18432x224x8 32 := broadcastInDim S18432x224x8 ![0, 1, 2] bcast_S1x1x8_S18432x224x8_0_1_2 main_v33
  let main_v36 : IVec S18432x224x8 32 := Host.shrsi main_v34 main_v35
  let main_c_8 : IVec S_ 32 := constantI S_ 32 3#32
  fn_part2 (F := F) main_v28 main_v29 main_v30 main_v36 main_c_8

def fn {F : FTy → Type} [FloatOps F] (main_arg0 : FVec F S2x128x7168 .bf16) (main_arg1 : FVec F S7168 .f32) (main_arg2 : FVec F S18432x3584 .fp8e4m3) (main_arg3 : IVec S18432x224 32) (main_arg4 : FVec F S18432 .f32) : IVec S_ 1 :=
  let main_v0 : FVec F S256x7168 .bf16 := shapeCast S256x7168 main_arg0 shapeCasts_S2x128x7168_S256x7168
  let main_v1 : FVec F S256x7168 .f32 := (extf .f32 · bitsLt_bf16_f32) main_v0
  let main_v2 : FVec F S256x7168 .f32 := mulf main_v1 main_v1
  let main_cst : FVec F S_ .f32 := constant S_ .f32 0x00000000#32
  let main_v3 : FVec F S256 .f32 := (fun x v => Host.reduceAdd x v reducesTo_S256x7168_S256_d1 h_S_) main_v2 main_cst
  let main_v4 : FVec F S256x1 .f32 := broadcastInDim S256x1 ![0] bcast_S256_S256x1_0 main_v3
  let main_cst_0 : FVec F S_ .f32 := constant S_ .f32 0x45E00000#32
  let main_v5 : FVec F S256x1 .f32 := broadcastInDim S256x1 ![] bcast_S_S256x1 main_cst_0
  let main_v6 : FVec F S256x1 .f32 := Host.divf main_v4 main_v5
  let main_cst_1 : FVec F S_ .f32 := constant S_ .f32 0x358637BD#32
  let main_v7 : FVec F S256x1 .f32 := broadcastInDim S256x1 ![] bcast_S_S256x1 main_cst_1
  let main_v8 : FVec F S256x1 .f32 := addf main_v6 main_v7
  let main_v9 : FVec F S256x1 .f32 := Host.rsqrt main_v8
  let main_v10 : FVec F S256x7168 .f32 := broadcastInDim S256x7168 ![0, 1] bcast_S256x1_S256x7168_0_1 main_v9
  let main_v11 : FVec F S256x7168 .f32 := mulf main_v1 main_v10
  let main_v12 : FVec F S1x7168 .f32 := shapeCast S1x7168 main_arg1 shapeCasts_S7168_S1x7168
  let main_v13 : FVec F S256x7168 .f32 := broadcastInDim S256x7168 ![0, 1] bcast_S1x7168_S256x7168_0_1 main_v12
  let main_v14 : FVec F S256x7168 .f32 := mulf main_v11 main_v13
  let main_v15 : FVec F S256x7168 .f32 := Host.absf main_v14
  let main_cst_2 : FVec F S_ .f32 := constant S_ .f32 0xFF800000#32
  let main_v16 : FVec F S256 .f32 := (fun x v => Host.reduce FloatOps.maximumf x v reducesTo_S256x7168_S256_d1 h_S_) main_v15 main_cst_2
  let main_v17 : FVec F S256x1 .f32 := broadcastInDim S256x1 ![0] bcast_S256_S256x1_0 main_v16
  let main_cst_3 : FVec F S_ .f32 := constant S_ .f32 0x3B124925#32
  let main_v18 : FVec F S256x1 .f32 := broadcastInDim S256x1 ![] bcast_S_S256x1 main_cst_3
  fn_part1 (F := F) main_arg3 main_v17 main_v18
-- ==== Kernel.lean ====
abbrev S2x128x7168 : Shape := ⟨3, ![2, 128, 7168]⟩
abbrev S7168 : Shape := ⟨1, ![7168]⟩
abbrev S18432x3584 : Shape := ⟨2, ![18432, 3584]⟩
abbrev S18432x224 : Shape := ⟨2, ![18432, 224]⟩
abbrev S18432 : Shape := ⟨1, ![18432]⟩
abbrev S256x7168 : Shape := ⟨2, ![256, 7168]⟩
abbrev S1x7168 : Shape := ⟨2, ![1, 7168]⟩
abbrev S1x18432 : Shape := ⟨2, ![1, 18432]⟩
abbrev S256x18432 : Shape := ⟨2, ![256, 18432]⟩
abbrev S256x128 : Shape := ⟨2, ![256, 128]⟩
abbrev S512x3584 : Shape := ⟨2, ![512, 3584]⟩
abbrev S512x224 : Shape := ⟨2, ![512, 224]⟩
abbrev S1x512 : Shape := ⟨2, ![1, 512]⟩
abbrev S256x512 : Shape := ⟨2, ![256, 512]⟩
abbrev S256x3584 : Shape := ⟨2, ![256, 3584]⟩
abbrev S32x7168 : Shape := ⟨2, ![32, 7168]⟩
abbrev S32 : Shape := ⟨1, ![32]⟩
abbrev S32x1 : Shape := ⟨2, ![32, 1]⟩
abbrev S32x256 : Shape := ⟨2, ![32, 256]⟩
abbrev S32x128 : Shape := ⟨2, ![32, 128]⟩
abbrev S32x128x1 : Shape := ⟨3, ![32, 128, 1]⟩
abbrev S32x96 : Shape := ⟨2, ![32, 96]⟩
abbrev S32x32 : Shape := ⟨2, ![32, 32]⟩
abbrev S8x128 : Shape := ⟨2, ![8, 128]⟩
abbrev S8x128x1 : Shape := ⟨3, ![8, 128, 1]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S2x128x7168, .bf16⟩
  | .hbm, ⟨1, _⟩ => ⟨S7168, .f32⟩
  | .hbm, ⟨2, _⟩ => ⟨S18432x3584, .fp8e4m3⟩
  | .hbm, ⟨3, _⟩ => ⟨S18432x224, .i32⟩
  | .hbm, ⟨4, _⟩ => ⟨S18432, .f32⟩
  | .hbm, ⟨5, _⟩ => ⟨S256x7168, .bf16⟩
  | .hbm, ⟨6, _⟩ => ⟨S1x7168, .f32⟩
  | .hbm, ⟨7, _⟩ => ⟨S1x18432, .f32⟩
  | .hbm, ⟨8, _⟩ => ⟨S256x18432, .bf16⟩
  | .hbm, ⟨9, _⟩ => ⟨S256x7168, .fp8e4m3⟩
  | .hbm, ⟨10, _⟩ => ⟨S256x128, .f32⟩
  | .local _ .vmem, ⟨0, _⟩ => ⟨S256x7168, .bf16⟩
  | .local _ .vmem, ⟨1, _⟩ => ⟨S1x7168, .f32⟩
  | .local _ .vmem, ⟨2, _⟩ => ⟨S512x3584, .fp8e4m3⟩
  | .local _ .vmem, ⟨3, _⟩ => ⟨S512x3584, .fp8e4m3⟩
  | .local _ .vmem, ⟨4, _⟩ => ⟨S512x224, .i32⟩
  | .local _ .vmem, ⟨5, _⟩ => ⟨S512x224, .i32⟩
  | .local _ .vmem, ⟨6, _⟩ => ⟨S1x512, .f32⟩
  | .local _ .vmem, ⟨7, _⟩ => ⟨S1x512, .f32⟩
  | .local _ .vmem, ⟨8, _⟩ => ⟨S256x512, .bf16⟩
  | .local _ .vmem, ⟨9, _⟩ => ⟨S256x512, .bf16⟩
  | .local _ .vmem, ⟨10, _⟩ => ⟨S256x7168, .fp8e4m3⟩
  | .local _ .vmem, ⟨11, _⟩ => ⟨S256x128, .f32⟩
  | .local _ .vmem, ⟨12, _⟩ => ⟨S256x3584, .fp8e4m3⟩
  | .local _ .vmem, ⟨13, _⟩ => ⟨S256x3584, .fp8e4m3⟩
  | .local _ .vmem, ⟨14, _⟩ => ⟨S512x3584, .fp8e4m3⟩
  | .local _ .vmem, ⟨15, _⟩ => ⟨S512x3584, .fp8e4m3⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![36], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_17 : BitVec 32 := 0#32
  let c8_i32 : BitVec 32 := 8#32
  let v21 : BitVec 32 := Scalar.addi c0_i32_17 c8_i32
  let c1_i32_18 : BitVec 32 := 1#32
  ⟨c0_i32_17, v21, c1_i32_18⟩
def k0_mult1 (k0_t1 : Fin k0_t1_loop.trips) : BitVec 32 :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  v24
def k0_off1 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v26 : Index := Scalar.indexCast v25
  let c0_22 : Index := 0#32
  ![v26.toNat, 0]
def k0_off2 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v92 : Index := Scalar.indexCast v25
  let c0_42 : Index := 0#32
  ![v92.toNat, 0]
def k0_off3 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1239 : Index := Scalar.indexCast v25
  let c0_273 : Index := 0#32
  ![v1239.toNat, 0]
def k0_off4 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1247 : Index := Scalar.indexCast v25
  let c128 : Index := 128#32
  ![v1247.toNat, 128]
def k0_off5 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1255 : Index := Scalar.indexCast v25
  let c256 : Index := 256#32
  ![v1255.toNat, 256]
def k0_off6 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1263 : Index := Scalar.indexCast v25
  let c384 : Index := 384#32
  ![v1263.toNat, 384]
def k0_off7 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1271 : Index := Scalar.indexCast v25
  let c512 : Index := 512#32
  ![v1271.toNat, 512]
def k0_off8 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1279 : Index := Scalar.indexCast v25
  let c640 : Index := 640#32
  ![v1279.toNat, 640]
def k0_off9 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1287 : Index := Scalar.indexCast v25
  let c768 : Index := 768#32
  ![v1287.toNat, 768]
def k0_off10 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1295 : Index := Scalar.indexCast v25
  let c896 : Index := 896#32
  ![v1295.toNat, 896]
def k0_off11 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1303 : Index := Scalar.indexCast v25
  let c1024 : Index := 1024#32
  ![v1303.toNat, 1024]
def k0_off12 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1311 : Index := Scalar.indexCast v25
  let c1152 : Index := 1152#32
  ![v1311.toNat, 1152]
def k0_off13 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1319 : Index := Scalar.indexCast v25
  let c1280 : Index := 1280#32
  ![v1319.toNat, 1280]
def k0_off14 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1327 : Index := Scalar.indexCast v25
  let c1408 : Index := 1408#32
  ![v1327.toNat, 1408]
def k0_off15 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1335 : Index := Scalar.indexCast v25
  let c1536 : Index := 1536#32
  ![v1335.toNat, 1536]
def k0_off16 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1343 : Index := Scalar.indexCast v25
  let c1664 : Index := 1664#32
  ![v1343.toNat, 1664]
def k0_off17 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1351 : Index := Scalar.indexCast v25
  let c1792 : Index := 1792#32
  ![v1351.toNat, 1792]
def k0_off18 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1359 : Index := Scalar.indexCast v25
  let c1920 : Index := 1920#32
  ![v1359.toNat, 1920]
def k0_off19 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1367 : Index := Scalar.indexCast v25
  let c2048 : Index := 2048#32
  ![v1367.toNat, 2048]
def k0_off20 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1375 : Index := Scalar.indexCast v25
  let c2176 : Index := 2176#32
  ![v1375.toNat, 2176]
def k0_off21 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1383 : Index := Scalar.indexCast v25
  let c2304 : Index := 2304#32
  ![v1383.toNat, 2304]
def k0_off22 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1391 : Index := Scalar.indexCast v25
  let c2432 : Index := 2432#32
  ![v1391.toNat, 2432]
def k0_off23 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1399 : Index := Scalar.indexCast v25
  let c2560 : Index := 2560#32
  ![v1399.toNat, 2560]
def k0_off24 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1407 : Index := Scalar.indexCast v25
  let c2688 : Index := 2688#32
  ![v1407.toNat, 2688]
def k0_off25 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1415 : Index := Scalar.indexCast v25
  let c2816 : Index := 2816#32
  ![v1415.toNat, 2816]
def k0_off26 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1423 : Index := Scalar.indexCast v25
  let c2944 : Index := 2944#32
  ![v1423.toNat, 2944]
def k0_off27 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1431 : Index := Scalar.indexCast v25
  let c3072 : Index := 3072#32
  ![v1431.toNat, 3072]
def k0_off28 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1439 : Index := Scalar.indexCast v25
  let c3200 : Index := 3200#32
  ![v1439.toNat, 3200]
def k0_off29 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1447 : Index := Scalar.indexCast v25
  let c3328 : Index := 3328#32
  ![v1447.toNat, 3328]
def k0_off30 (k0_t1 : Fin k0_t1_loop.trips) : Fin 2 → Nat :=
  let c0_i32_21 : BitVec 32 := 0#32
  let c0_i32_17 : BitVec 32 := 0#32
  let c1_i32_18 : BitVec 32 := 1#32
  let arg13 : BitVec 32 := Scf.iv c0_i32_17 c1_i32_18 k0_t1
  let c1_i32_20 : BitVec 32 := 1#32
  let v22 : BitVec 32 := Scalar.muli arg13 c1_i32_20
  let v23 : BitVec 32 := Scalar.addi c0_i32_21 v22
  let c32_i32 : BitVec 32 := 32#32
  let v24 : BitVec 32 := Scalar.muli v23 c32_i32
  let v25 : BitVec 32 := v24
  let v1455 : Index := Scalar.indexCast v25
  let c3456 : Index := 3456#32
  ![v1455.toNat, 3456]
@[reducible] def k0_t2_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult2 (k0_t2 : Fin k0_t2_loop.trips) : BitVec 32 :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  v23
def k0_off31 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v25 : Index := Scalar.indexCast v24
  let c0_19 : Index := 0#32
  ![v25.toNat, 0]
def k0_off32 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v27 : Index := Scalar.indexCast v24
  let c128 : Index := 128#32
  ![v27.toNat, 128]
def k0_off33 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v157 : Index := Scalar.indexCast v24
  let c0_67 : Index := 0#32
  ![v157.toNat, 0]
def k0_off34 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v227 : Index := Scalar.indexCast v24
  let c128_84 : Index := 128#32
  ![v227.toNat, 128]
def k0_off35 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v297 : Index := Scalar.indexCast v24
  let c256 : Index := 256#32
  ![v297.toNat, 256]
def k0_off36 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v367 : Index := Scalar.indexCast v24
  let c384 : Index := 384#32
  ![v367.toNat, 384]
def k0_off37 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v437 : Index := Scalar.indexCast v24
  let c512 : Index := 512#32
  ![v437.toNat, 512]
def k0_off38 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v507 : Index := Scalar.indexCast v24
  let c640 : Index := 640#32
  ![v507.toNat, 640]
def k0_off39 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v577 : Index := Scalar.indexCast v24
  let c768 : Index := 768#32
  ![v577.toNat, 768]
def k0_off40 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v647 : Index := Scalar.indexCast v24
  let c896 : Index := 896#32
  ![v647.toNat, 896]
def k0_off41 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v717 : Index := Scalar.indexCast v24
  let c1024 : Index := 1024#32
  ![v717.toNat, 1024]
def k0_off42 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v787 : Index := Scalar.indexCast v24
  let c1152 : Index := 1152#32
  ![v787.toNat, 1152]
def k0_off43 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v857 : Index := Scalar.indexCast v24
  let c1280 : Index := 1280#32
  ![v857.toNat, 1280]
def k0_off44 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v927 : Index := Scalar.indexCast v24
  let c1408 : Index := 1408#32
  ![v927.toNat, 1408]
def k0_off45 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v997 : Index := Scalar.indexCast v24
  let c1536 : Index := 1536#32
  ![v997.toNat, 1536]
def k0_off46 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v1067 : Index := Scalar.indexCast v24
  let c1664 : Index := 1664#32
  ![v1067.toNat, 1664]
def k0_off47 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v1137 : Index := Scalar.indexCast v24
  let c1792 : Index := 1792#32
  ![v1137.toNat, 1792]
def k0_off48 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v1207 : Index := Scalar.indexCast v24
  let c1920 : Index := 1920#32
  ![v1207.toNat, 1920]
def k0_off49 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v1277 : Index := Scalar.indexCast v24
  let c2048 : Index := 2048#32
  ![v1277.toNat, 2048]
def k0_off50 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v1347 : Index := Scalar.indexCast v24
  let c2176 : Index := 2176#32
  ![v1347.toNat, 2176]
def k0_off51 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v1417 : Index := Scalar.indexCast v24
  let c2304 : Index := 2304#32
  ![v1417.toNat, 2304]
def k0_off52 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v1487 : Index := Scalar.indexCast v24
  let c2432 : Index := 2432#32
  ![v1487.toNat, 2432]
def k0_off53 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v1557 : Index := Scalar.indexCast v24
  let c2560 : Index := 2560#32
  ![v1557.toNat, 2560]
def k0_off54 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v1627 : Index := Scalar.indexCast v24
  let c2688 : Index := 2688#32
  ![v1627.toNat, 2688]
def k0_off55 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v1697 : Index := Scalar.indexCast v24
  let c2816 : Index := 2816#32
  ![v1697.toNat, 2816]
def k0_off56 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v1767 : Index := Scalar.indexCast v24
  let c2944 : Index := 2944#32
  ![v1767.toNat, 2944]
def k0_off57 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v1837 : Index := Scalar.indexCast v24
  let c3072 : Index := 3072#32
  ![v1837.toNat, 3072]
def k0_off58 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v1907 : Index := Scalar.indexCast v24
  let c3200 : Index := 3200#32
  ![v1907.toNat, 3200]
def k0_off59 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v1977 : Index := Scalar.indexCast v24
  let c3328 : Index := 3328#32
  ![v1977.toNat, 3328]
def k0_off60 (k0_t2 : Fin k0_t2_loop.trips) : Fin 2 → Nat :=
  let c0_i32_18 : BitVec 32 := 0#32
  let c0_i32_1 : BitVec 32 := 0#32
  let c1_i32 : BitVec 32 := 1#32
  let arg13 : BitVec 32 := Scf.iv c0_i32_1 c1_i32 k0_t2
  let c1_i32_17 : BitVec 32 := 1#32
  let v21 : BitVec 32 := Scalar.muli arg13 c1_i32_17
  let v22 : BitVec 32 := Scalar.addi c0_i32_18 v21
  let c32_i32 : BitVec 32 := 32#32
  let v23 : BitVec 32 := Scalar.muli v22 c32_i32
  let v24 : BitVec 32 := v23
  let v2047 : Index := Scalar.indexCast v24
  let c3456 : Index := 3456#32
  ![v2047.toNat, 3456]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x224 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "inv_d" => some ((1 / 7168 : ℝ) : EReal)
  | _ => none
-- ==== ReferenceIdeal.lean ====
abbrev S2x128x7168 : Shape := ⟨3, ![2, 128, 7168]⟩
abbrev S7168 : Shape := ⟨1, ![7168]⟩
abbrev S18432x3584 : Shape := ⟨2, ![18432, 3584]⟩
abbrev S18432x224 : Shape := ⟨2, ![18432, 224]⟩
abbrev S18432 : Shape := ⟨1, ![18432]⟩
abbrev S256x7168 : Shape := ⟨2, ![256, 7168]⟩
abbrev S1x7168 : Shape := ⟨2, ![1, 7168]⟩
abbrev S1x18432 : Shape := ⟨2, ![1, 18432]⟩
abbrev S256x18432 : Shape := ⟨2, ![256, 18432]⟩
abbrev S256x128 : Shape := ⟨2, ![256, 128]⟩
abbrev S256 : Shape := ⟨1, ![256]⟩
abbrev S256x1 : Shape := ⟨2, ![256, 1]⟩
abbrev S18432x224x8x4 : Shape := ⟨4, ![18432, 224, 8, 4]⟩
abbrev S18432x224x1x1 : Shape := ⟨4, ![18432, 224, 1, 1]⟩
abbrev S18432x224x8x2 : Shape := ⟨4, ![18432, 224, 8, 2]⟩
abbrev S18432x224x8x1 : Shape := ⟨4, ![18432, 224, 8, 1]⟩
abbrev S18432x7168 : Shape := ⟨2, ![18432, 7168]⟩

abbrev nBuf : Space → Nat
  | .hbm => 11
  | .vmem => 8
  | .smem => 0
  | _ => 0

abbrev bufTy : (tb : Table) → Fin (tcTables nBuf tb) → BufTy
  | .hbm, ⟨0, _⟩ => ⟨S2x128x7168, .bf16⟩
  | .hbm, ⟨1, _⟩ => ⟨S7168, .f32⟩
  | .hbm, ⟨2, _⟩ => ⟨S18432x3584, .fp8e4m3⟩
  | .hbm, ⟨3, _⟩ => ⟨S18432x224, .i32⟩
  | .hbm, ⟨4, _⟩ => ⟨S18432, .f32⟩
  | .hbm, ⟨5, _⟩ => ⟨S256x7168, .bf16⟩
  | .hbm, ⟨6, _⟩ => ⟨S1x7168, .f32⟩
  | .hbm, ⟨7, _⟩ => ⟨S1x18432, .f32⟩
  | .hbm, ⟨8, _⟩ => ⟨S256x18432, .bf16⟩
  | .hbm, ⟨9, _⟩ => ⟨S256x7168, .fp8e4m3⟩
  | .hbm, ⟨10, _⟩ => ⟨S256x128, .f32⟩
  | .local _ .vmem, ⟨0, _⟩ => ⟨S256x7168, .bf16⟩
  | .local _ .vmem, ⟨1, _⟩ => ⟨S1x7168, .f32⟩
  | .local _ .vmem, ⟨2, _⟩ => ⟨S18432x3584, .fp8e4m3⟩
  | .local _ .vmem, ⟨3, _⟩ => ⟨S18432x224, .i32⟩
  | .local _ .vmem, ⟨4, _⟩ => ⟨S1x18432, .f32⟩
  | .local _ .vmem, ⟨5, _⟩ => ⟨S256x18432, .bf16⟩
  | .local _ .vmem, ⟨6, _⟩ => ⟨S256x7168, .fp8e4m3⟩
  | .local _ .vmem, ⟨7, _⟩ => ⟨S256x128, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18432x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x224 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x18432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Words.First.lean ====
/- The frame of the kernel over words. This module: what the runs of the body share, and the run at the first grid point. Nothing is
   said of what the outputs and the scratch buffers hold. -/
module

public import proofs.«01_k».proof.Proof.Gen.Kernel.Skeleton
public import proofs.«01_k».proof.Proof.Gen.Kernel.Loops
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

-- the blocks are long: deep recursion over their coordinates
set_option maxRecDepth 16384

noncomputable section

namespace Cert.Kernel.Words

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's one conditional, from the grid coordinates. -/
abbrev cond0_0 (i : grid0.Coords) : Prop := k0_cond1 i = 1#1
/-- It holds at the first point only. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-! ## No input window is ever idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-! ## The buffers the body is called with -/

/-- Each window's staging buffer at point `t`, and that it is a whole buffer. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x3584 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x224 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x128 .f32 := win0_7.stage (cfg0.slots t 7)
abbrev hs0_7 (t : Fin cfg0.N) : (ms0_7 t).IsWhole := hstage0_7 ((cfg0.slots t 7).cast nbuf0_7)
/-- The scratch buffers. -/
abbrev scM0_0 : Memref sig .tc .vmem S256x3584 .fp8e4m3 := Memref.whole cc0_scratch0
abbrev scM0_1 : Memref sig .tc .vmem S256x3584 .fp8e4m3 := Memref.whole cc0_scratch1
abbrev scM0_2 : Memref sig .tc .vmem S512x3584 .fp8e4m3 := Memref.whole cc0_scratch2
abbrev scM0_3 : Memref sig .tc .vmem S512x3584 .fp8e4m3 := Memref.whole cc0_scratch3

/-- What is kept between the points: the scratch buffers at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 1000000 in
/-- At the first point, where the tokens are quantised too, the body runs: the inputs' buffers end as they were, the outputs' and the
    scratch buffers at some contents. -/
theorem kernelRun0_A (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (hc0 : cond0_0 i)
    (x0 : Vec F S256x7168 .bf16) (x1 : Vec F S1x7168 .f32) (x2 : Vec F S512x3584 .fp8e4m3) (x3 : Vec F S512x224 .i32) (x4 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_sparse24_rmsnorm_linear i arg1 harg1 arg2 harg2 arg3 harg3 arg4 harg4 arg5 harg5 arg6 harg6 arg7 harg7 arg8 harg8 arg9 harg9 arg10 harg10 arg11 harg11 arg12 harg12) K := by
    intro E K
    simp only [cc0_sparse24_rmsnorm_linear_eq_skeleton]; unfold cc0_sparse24_rmsnorm_linear_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Words

end
-- ==== Proof.Words.Later.lean ====
/- The frame of the kernel over words: the run of the body at a grid point after the first. -/
module

public import proofs.«01_k».proof.Proof.Words.First

@[expose] public section

-- the blocks are long: deep recursion over their coordinates
set_option maxRecDepth 16384

noncomputable section

namespace Cert.Kernel.Words

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a later point the body runs: the inputs' buffers end as they were, the outputs' and the scratch buffers at some contents. -/
theorem kernelRun0_B (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (hc0 : ¬cond0_0 i)
    (x0 : Vec F S256x7168 .bf16) (x1 : Vec F S1x7168 .f32) (x2 : Vec F S512x3584 .fp8e4m3) (x3 : Vec F S512x224 .i32) (x4 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_sparse24_rmsnorm_linear i arg1 harg1 arg2 harg2 arg3 harg3 arg4 harg4 arg5 harg5 arg6 harg6 arg7 harg7 arg8 harg8 arg9 harg9 arg10 harg10 arg11 harg11 arg12 harg12) K := by
    intro E K
    simp only [cc0_sparse24_rmsnorm_linear_eq_skeleton]; unfold cc0_sparse24_rmsnorm_linear_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Words

end
-- ==== Proof.Words.Frame.lean ====
/- The frame of the kernel over words: `frame`. -/
module

public import proofs.«01_k».proof.Proof.Words.Later
public import Idealize.ShloMosaic.Lib.Claim

@[expose] public section

-- the blocks are long: deep recursion over their coordinates
set_option maxRecDepth 16384

noncomputable section

namespace Cert.Kernel.Words

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The windows of whose contents nothing is said: the three outputs. -/
def forgets0 : Fin 8 → Bool := fun w => w.val == 5 || w.val == 6 || w.val == 7

/-- What the windows hold on core `c`: the arrays as the kernel finds them; after the body at point `t` each input's buffer at its
    block and the outputs' unnamed; between the points the scratch buffers and the generator register at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The arrays are as the kernel finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 2400000 in
/-- The body at any point, from its two runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 36 := lt_of_lt_of_eq t.isLt (show cfg0.N = 36 from N_0)
  by_cases h0 : t.val % 36 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The table's entry for the body is the body at point `t`. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the implicit arguments are found by unfolding plain definitions
set_option backward.isDefEq.respectTransparency.types false in
/-- The whole run: the input arrays end unchanged, and every semaphore counter is zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- From a run of which the pipeline says that its input arrays end as they were: the argument arrays end unchanged. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  unchanged_of m ρ (fun c => (dats m 0 c).toRForget forgets0) (A_eq m) (run_main m ρ)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Words

end
-- ==== Proof.Lanes.Fields.lean ====
/- The fields of the index words: what the kernel's byte packing, lane rotations and lane gathers leave at each lane. -/
module

public import proofs.«01_k».proof.Proof.Gen.KernelIdeal
public import Idealize.ShloMosaic.Lib.Pointwise
public import Idealize.ShloMosaic.Lib.BitcastFour

@[expose] public section

set_option maxRecDepth 16384

noncomputable section

namespace Cert.Proof

open Idealize.ShloMosaic Cert.KernelIdeal Cert.KernelIdeal.Facts₀ Cert.KernelIdeal.Facts

/-- The lane number at every position of an [8, 128] word array. -/
def lane : IVec S8x128 32 := iota .tc S8x128 32 [1] iota_S8x128_d1_w32

/-- Byte `q` of each of 32 × 128 words (the odd fields complemented), four rows packed into one word. -/
def byteWords (q : Nat) (w : IVec S32x128 32) : IVec S8x128 32 :=
  bitcast S8x128 32 (trunci 8 (shrsi (xori w (broadcast S32x128 3435973836#32)) (broadcast S32x128 (BitVec.ofNat 32 (8 * q)))) natLt_8_32)
    bitcasts_S32x128_w8_S8x128_w32

/-- `byteWords q` rotated so that its lane group `t` lies at lane group `q`. -/
def rolled (q t : Nat) (w : IVec S32x128 32) : IVec S8x128 32 :=
  if q = t then byteWords q w
  else dynamicRotate 1 (BitVec.ofNat 32 ((32 * (q + 4 - t)) % 128)) none (byteWords q w) rotates_S8x128_d1

/-- The packed bytes of the words of lane group `t`: byte `q` at lane group `q`. -/
def fieldWords (t : Nat) (w : IVec S32x128 32) : IVec S8x128 32 :=
  select (cmpi .eq (shrsi lane (broadcast S8x128 5#32)) (broadcast S8x128 3#32)) (rolled 3 t w)
    (select (cmpi .eq (shrsi lane (broadcast S8x128 5#32)) (broadcast S8x128 2#32)) (rolled 2 t w)
      (select (cmpi .eq (shrsi lane (broadcast S8x128 5#32)) (broadcast S8x128 1#32)) (rolled 1 t w) (rolled 0 t w)))

/-- The lane that holds the byte of plane `j`'s field at each lane, before the wrap of negative numbers. -/
def place (j : Nat) : IVec S8x128 32 :=
  addi (addi (muli (shrsi (andi lane (broadcast S8x128 15#32)) (broadcast S8x128 2#32)) (broadcast S8x128 32#32))
    (broadcast S8x128 (BitVec.ofNat 32 (8 * (j % 4))))) (shrsi lane (broadcast S8x128 4#32))

/-- The packed bytes gathered for plane `j`. -/
def picked (j : Nat) (fw : IVec S8x128 32) : IVec S8x128 32 :=
  dynamicGather 1 fw (shapeCast S8x128 (shapeCast S8x128x1
    (select (cmpi .slt (place j) (broadcast S8x128 0#32)) (addi (place j) (broadcast S8x128 128#32)) (place j))
      shapeCasts_S8x128_S8x128x1) shapeCasts_S8x128x1_S8x128)

/-- The low bit of the lane's field, in each of the four bytes. -/
def lowBit : IVec S8x128 32 :=
  shli (broadcast S8x128 16843009#32) (muli (broadcast S8x128 2#32) (andi lane (broadcast S8x128 3#32)))

/-- The masked bytes of plane `j`, one byte per row. -/
def masked (j : Nat) (fw m : IVec S8x128 32) : IVec S32x128 8 :=
  bitcast S32x128 8 (andi (picked j fw) m) bitcasts_S8x128_w32_S32x128_w8

/-- Bit `n` of a word whose odd fields are complemented. -/
def flag (x : BitVec 32) (n : Nat) : Bool := (x ^^^ 3435973836#32).getLsbD n

/-- Bit `n` of a packed word is bit `8 q + n % 8` of the complemented word of row `4 r + n / 8`. -/
theorem byteWords_bit (q : Nat) (hq : q < 4) (w : IVec S32x128 32) (r : Fin 8) (l : Fin 128) (n : Nat) (hn : n < 32)
    (p : Fin 32) (hp : p.val = 4 * r.val + n / 8) :
    (byteWords q w (ix2 r l)).getLsbD n = flag (w (ix2 p l)) (8 * q + n % 8) := by
  unfold byteWords
  rw [show (ix2 r l : S8x128.Idx) = ValueIdx.ix2 r l from rfl, bitcast_8_32_getLsbD_ix2 _ _ r l n hn p hp]
  rw [show (ValueIdx.ix2 p l : S32x128.Idx) = ix2 p l from rfl]
  pointwise []
  have hb : n % 8 < 8 := Nat.mod_lt _ (by decide)
  have h8 : (BitVec.ofNat 32 (8 * q)).toNat = 8 * q := by rw [BitVec.toNat_ofNat]; omega
  unfold IntOp.shrsi IntOp.xori flag
  rw [if_pos (by rw [h8]; omega), BitVec.sshiftRight_eq', h8, BitVec.getLsbD_setWidth, BitVec.getLsbD_sshiftRight]
  simp only [hb, decide_true, Bool.true_and]
  rw [if_pos (by omega)]
  simp [show n % 8 < 32 by omega]

/-- Bit `k` of the masked byte of row `r` is that bit of the packed word and of the mask. -/
theorem masked_bit (j : Nat) (fw m : IVec S8x128 32) (r : Fin 32) (l : Fin 128) (k : Nat) (hk : k < 8)
    (a : Fin 8) (ha : a.val = r.val / 4) :
    (masked j fw m (ix2 r l)).getLsbD k
      = ((picked j fw (ix2 a l)).getLsbD (8 * (r.val % 4) + k) && (m (ix2 a l)).getLsbD (8 * (r.val % 4) + k)) := by
  unfold masked
  rw [bitcast_getLsbD _ _ _ _ hk (by decide)]
  have hrow : S32x128.row (ix2 r l) = r.val := rfl
  have hs : bitcasts_S8x128_w32_S32x128_w8.srcIdx (ix2 r l : S32x128.Idx) ((S32x128.row (ix2 r l) * 8 + k) / 32)
      (fun b hb => (Nat.div_lt_iff_lt_mul (by decide)).2 (bitcasts_S8x128_w32_S32x128_w8.pos_lt (ix2 r l : S32x128.Idx) k hk b hb))
      = (ix2 a l : S8x128.Idx) := by
    funext c
    match c with
    | ⟨0, _⟩ =>
      refine Fin.ext ((Shape.Bitcasts.srcIdx_row _ _ _ _ ⟨0, Nat.zero_lt_two⟩ rfl).trans ?_)
      rw [hrow]; show _ = a.val; omega
    | ⟨1, _⟩ => exact Fin.ext (Shape.Bitcasts.srcIdx_other _ _ _ _ ⟨1, Nat.one_lt_two⟩ (by show ¬ 1 + 2 = 2; omega))
  rw [hs, hrow, show (r.val * 8 + k) % 32 = 8 * (r.val % 4) + k by omega]
  pointwise []
  unfold IntOp.andi
  rw [BitVec.getLsbD_and]

theorem place_eq : ∀ (s : Fin 4) (l : Fin 128),
    (Scalar.select (IntOp.cmpi CmpIPredicate.slt
      (IntOp.addi (IntOp.addi (IntOp.muli (IntOp.shrsi ArithUnit.vector (IntOp.andi (BitVec.ofNat 32 l.val) 15#32) 2#32) 32#32)
        (BitVec.ofNat 32 (8 * s.val))) (IntOp.shrsi ArithUnit.vector (BitVec.ofNat 32 l.val) 4#32)) 0#32)
      (IntOp.addi (IntOp.addi (IntOp.addi (IntOp.muli (IntOp.shrsi ArithUnit.vector (IntOp.andi (BitVec.ofNat 32 l.val) 15#32) 2#32) 32#32)
        (BitVec.ofNat 32 (8 * s.val))) (IntOp.shrsi ArithUnit.vector (BitVec.ofNat 32 l.val) 4#32)) 128#32)
      (IntOp.addi (IntOp.addi (IntOp.muli (IntOp.shrsi ArithUnit.vector (IntOp.andi (BitVec.ofNat 32 l.val) 15#32) 2#32) 32#32)
        (BitVec.ofNat 32 (8 * s.val))) (IntOp.shrsi ArithUnit.vector (BitVec.ofNat 32 l.val) 4#32))).toNat % 128
      = 32 * (l.val % 16 / 4) + 8 * s.val + l.val / 16 := by decide +kernel

/-- Plane `j` takes at lane `l` the packed byte of lane `32 (l % 16 / 4) + 8 (j % 4) + l / 16`. -/
theorem picked_apply (j : Nat) (fw : IVec S8x128 32) (r : Fin 8) (l : Fin 128) :
    picked j fw (ix2 r l) = fw (ix2 r ⟨32 * (l.val % 16 / 4) + 8 * (j % 4) + l.val / 16, by omega⟩) := by
  unfold picked place lane
  pointwise []
  exact congrArg (fun x => fw (ix2 r x)) (Fin.ext (place_eq ⟨j % 4, Nat.mod_lt _ (by decide)⟩ l))

theorem quarter_eq : ∀ l : Fin 128, IntOp.shrsi ArithUnit.vector (BitVec.ofNat 32 l.val) 5#32 = BitVec.ofNat 32 (l.val / 32) := by
  decide +kernel

/-- `rolled q t` at a lane of group `q`: the lane of group `t` at the same place. -/
theorem rolled_apply (q t : Nat) (hq : q < 4) (ht : t < 4) (w : IVec S32x128 32) (r : Fin 8) (l : Fin 128) (hl : l.val / 32 = q) :
    rolled q t w (ix2 r l) = byteWords q w (ix2 r ⟨32 * t + l.val % 32, by omega⟩) := by
  unfold rolled
  split
  · rename_i h
    exact congrArg (fun x => byteWords q w (ix2 r x)) (Fin.ext (by show l.val = 32 * t + l.val % 32; omega))
  · rename_i h
    unfold dynamicRotate
    refine congrArg (byteWords q w) ?_
    have hn : (BitVec.ofNat 32 (32 * (q + 4 - t) % 128)).toNat = 32 * (q + 4 - t) % 128 := by
      rw [BitVec.toNat_ofNat]; omega
    funext c
    match c with
    | ⟨0, _⟩ => rfl
    | ⟨1, _⟩ =>
      refine Fin.ext ?_
      show (l.val + 128 - ((BitVec.ofNat 32 (32 * (q + 4 - t) % 128)).toNat + 0) % 128) % 128 = 32 * t + l.val % 32
      rw [hn]; omega

/-- The gathered words of lane group `t`: lane group `q` holds byte `q`. -/
theorem fieldWords_apply (t : Nat) (ht : t < 4) (w : IVec S32x128 32) (r : Fin 8) (l : Fin 128) :
    fieldWords t w (ix2 r l) = byteWords (l.val / 32) w (ix2 r ⟨32 * t + l.val % 32, by omega⟩) := by
  unfold fieldWords lane
  pointwise []
  rw [quarter_eq l]
  have h4 : l.val / 32 = 0 ∨ l.val / 32 = 1 ∨ l.val / 32 = 2 ∨ l.val / 32 = 3 := by omega
  rcases h4 with h | h | h | h
  · rw [h]; exact rolled_apply 0 t (by decide) ht w r l h
  · rw [h]; exact rolled_apply 1 t (by decide) ht w r l h
  · rw [h]; exact rolled_apply 2 t (by decide) ht w r l h
  · rw [h]; exact rolled_apply 3 t (by decide) ht w r l h

/-- The bits of plane `j`'s gathered word at lane `l`: of row `r`, the byte that holds the lane's field. -/
theorem picked_fieldWords_bit (j : Nat) (w : IVec S32x128 32) (r : Fin 32) (l : Fin 128) (k : Nat) (hk : k < 8)
    (a : Fin 8) (ha : a.val = r.val / 4) :
    (picked j (fieldWords (j / 4 % 4) w) (ix2 a l)).getLsbD (8 * (r.val % 4) + k)
      = flag (w (ix2 r ⟨8 * (j % 16) + l.val / 16, by omega⟩)) (8 * (l.val % 16 / 4) + k) := by
  rw [picked_apply, fieldWords_apply _ (by omega)]
  rw [byteWords_bit _ (by omega) w a _ _ (by omega) r (by omega)]
  have e1 : (32 * (l.val % 16 / 4) + 8 * (j % 4) + l.val / 16) / 32 = l.val % 16 / 4 := by omega
  have e2 : 32 * (j / 4 % 4) + (32 * (l.val % 16 / 4) + 8 * (j % 4) + l.val / 16) % 32 = 8 * (j % 16) + l.val / 16 := by omega
  have e3 : (8 * (r.val % 4) + k) % 8 = k := by omega
  simp only [e1, e2, e3]

theorem lowBit_apply (r : Fin 8) (l : Fin 128) :
    lowBit (ix2 r l) = IntOp.shli ArithUnit.vector (16843009#32) (IntOp.muli (2#32) (IntOp.andi (BitVec.ofNat 32 l.val) 3#32)) := by
  unfold lowBit lane
  pointwise []

/-- Which bit the mask `lowBit · c` keeps, `c = 1, 2, 3`, in each byte. -/
theorem mask_bit : ∀ (l : Fin 128) (b : Fin 4) (k : Fin 8),
    (IntOp.shli ArithUnit.vector (16843009#32) (IntOp.muli (2#32) (IntOp.andi (BitVec.ofNat 32 l.val) 3#32))).getLsbD (8 * b.val + k.val)
        = decide (k.val = 2 * (l.val % 4))
    ∧ (IntOp.muli (IntOp.shli ArithUnit.vector (16843009#32) (IntOp.muli (2#32) (IntOp.andi (BitVec.ofNat 32 l.val) 3#32))) 2#32).getLsbD
        (8 * b.val + k.val) = decide (k.val = 2 * (l.val % 4) + 1)
    ∧ (IntOp.muli (IntOp.shli ArithUnit.vector (16843009#32) (IntOp.muli (2#32) (IntOp.andi (BitVec.ofNat 32 l.val) 3#32))) 3#32).getLsbD
        (8 * b.val + k.val) = decide (k.val = 2 * (l.val % 4) ∨ k.val = 2 * (l.val % 4) + 1) := by decide +kernel

/-- A byte is zero when its bits are. -/
theorem byte_eq_zero_iff (x : BitVec 8) : x = 0#8 ↔ ∀ k < 8, x.getLsbD k = false := by
  constructor
  · rintro rfl k _; simp
  · intro h; apply BitVec.eq_of_getLsbD_eq; intro i hi; rw [h i hi]; simp

/-- The word that holds the field of plane `j`, row `r`, lane `l`. -/
def fieldOf (w : IVec S32x128 32) (j : Nat) (r : Fin 32) (l : Fin 128) (b : Nat) : Bool :=
  flag (w (ix2 r ⟨8 * (j % 16) + l.val / 16, by omega⟩)) (2 * (l.val % 16) + b)

/-- The mask `lowBit` keeps the field's low bit. -/
theorem masked_low (j : Nat) (w : IVec S32x128 32) (r : Fin 32) (l : Fin 128) :
    masked j (fieldWords (j / 4 % 4) w) lowBit (ix2 r l) = 0#8 ↔ fieldOf w j r l 0 = false := by
  rw [byte_eq_zero_iff]
  have key (k : Nat) (hk : k < 8) : (masked j (fieldWords (j / 4 % 4) w) lowBit (ix2 r l)).getLsbD k
      = (flag (w (ix2 r ⟨8 * (j % 16) + l.val / 16, by omega⟩)) (8 * (l.val % 16 / 4) + k) && decide (k = 2 * (l.val % 4))) := by
    rw [masked_bit j _ _ r l k hk ⟨r.val / 4, by omega⟩ rfl, picked_fieldWords_bit j w r l k hk _ rfl, lowBit_apply,
      (mask_bit l ⟨r.val % 4, by omega⟩ ⟨k, hk⟩).1]
  have e : 8 * (l.val % 16 / 4) + 2 * (l.val % 4) = 2 * (l.val % 16) + 0 := by omega
  constructor
  · intro h
    have := h (2 * (l.val % 4)) (by omega)
    rw [key _ (by omega), e] at this
    simpa [fieldOf] using this
  · intro h k hk
    rw [key k hk]
    by_cases hc : k = 2 * (l.val % 4)
    · rw [hc, e]; simpa [fieldOf] using h
    · simp [hc]

/-- The mask `2 · lowBit` keeps the field's high bit. -/
theorem masked_high (j : Nat) (w : IVec S32x128 32) (r : Fin 32) (l : Fin 128) :
    masked j (fieldWords (j / 4 % 4) w) (muli lowBit (broadcast S8x128 2#32)) (ix2 r l) = 0#8 ↔ fieldOf w j r l 1 = false := by
  rw [byte_eq_zero_iff]
  have hm (a : Fin 8) : muli lowBit (broadcast S8x128 2#32) (ix2 a l)
      = IntOp.muli (IntOp.shli ArithUnit.vector (16843009#32) (IntOp.muli (2#32) (IntOp.andi (BitVec.ofNat 32 l.val) 3#32))) 2#32 := by
    pointwise []; rw [lowBit_apply]
  have key (k : Nat) (hk : k < 8) : (masked j (fieldWords (j / 4 % 4) w) (muli lowBit (broadcast S8x128 2#32)) (ix2 r l)).getLsbD k
      = (flag (w (ix2 r ⟨8 * (j % 16) + l.val / 16, by omega⟩)) (8 * (l.val % 16 / 4) + k) && decide (k = 2 * (l.val % 4) + 1)) := by
    rw [masked_bit j _ _ r l k hk ⟨r.val / 4, by omega⟩ rfl, picked_fieldWords_bit j w r l k hk _ rfl, hm,
      (mask_bit l ⟨r.val % 4, by omega⟩ ⟨k, hk⟩).2.1]
  have e : 8 * (l.val % 16 / 4) + (2 * (l.val % 4) + 1) = 2 * (l.val % 16) + 1 := by omega
  constructor
  · intro h
    have := h (2 * (l.val % 4) + 1) (by omega)
    rw [key _ (by omega), e] at this
    simpa [fieldOf] using this
  · intro h k hk
    rw [key k hk]
    by_cases hc : k = 2 * (l.val % 4) + 1
    · rw [hc, e]; simpa [fieldOf] using h
    · simp [hc]

/-- The mask `3 · lowBit` keeps both bits of the field. -/
theorem masked_both (j : Nat) (w : IVec S32x128 32) (r : Fin 32) (l : Fin 128) :
    masked j (fieldWords (j / 4 % 4) w) (muli lowBit (broadcast S8x128 3#32)) (ix2 r l) = 0#8
      ↔ (fieldOf w j r l 0 = false ∧ fieldOf w j r l 1 = false) := by
  rw [byte_eq_zero_iff]
  have hm (a : Fin 8) : muli lowBit (broadcast S8x128 3#32) (ix2 a l)
      = IntOp.muli (IntOp.shli ArithUnit.vector (16843009#32) (IntOp.muli (2#32) (IntOp.andi (BitVec.ofNat 32 l.val) 3#32))) 3#32 := by
    pointwise []; rw [lowBit_apply]
  have key (k : Nat) (hk : k < 8) : (masked j (fieldWords (j / 4 % 4) w) (muli lowBit (broadcast S8x128 3#32)) (ix2 r l)).getLsbD k
      = (flag (w (ix2 r ⟨8 * (j % 16) + l.val / 16, by omega⟩)) (8 * (l.val % 16 / 4) + k)
          && decide (k = 2 * (l.val % 4) ∨ k = 2 * (l.val % 4) + 1)) := by
    rw [masked_bit j _ _ r l k hk ⟨r.val / 4, by omega⟩ rfl, picked_fieldWords_bit j w r l k hk _ rfl, hm,
      (mask_bit l ⟨r.val % 4, by omega⟩ ⟨k, hk⟩).2.2]
  have e0 : 8 * (l.val % 16 / 4) + 2 * (l.val % 4) = 2 * (l.val % 16) + 0 := by omega
  have e1 : 8 * (l.val % 16 / 4) + (2 * (l.val % 4) + 1) = 2 * (l.val % 16) + 1 := by omega
  constructor
  · intro h
    constructor
    · have := h (2 * (l.val % 4)) (by omega)
      rw [key _ (by omega), e0] at this
      simpa [fieldOf] using this
    · have := h (2 * (l.val % 4) + 1) (by omega)
      rw [key _ (by omega), e1] at this
      simpa [fieldOf] using this
  · rintro ⟨h0, h1⟩ k hk
    rw [key k hk]
    by_cases hc : k = 2 * (l.val % 4)
    · rw [hc, e0]; simpa [fieldOf] using h0
    · by_cases hc1 : k = 2 * (l.val % 4) + 1
      · rw [hc1, e1]; simpa [fieldOf] using h1
      · simp [hc, hc1]

end Cert.Proof

end
-- ==== Proof.Lanes.Strip.lean ====
/- A strip of a buffer written plane by plane: 32 rows, 128 columns at a time. -/
module

public import proofs.«01_k».proof.Proof.Gen.KernelIdeal
public import Idealize.ShloMosaic.Lib.Pointwise
public import Idealize.ShloMosaic.Lib.Writes

@[expose] public section

set_option maxRecDepth 16384

noncomputable section

namespace Cert.Proof

open Idealize.ShloMosaic Idealize.SL.Sem

variable {R C : ℕ} {e : EltTy}

/-- `L` holds the planes `n - 1, …, 0` of the rows `32 k … 32 k + 31`, each of them a block of `G`. -/
inductive Strip (G : (⟨2, ![R, C]⟩ : Shape).Idx → Elt Ideal e) (k : ℕ) : ℕ → List (View.Piece (Elt Ideal) (⟨2, ![R, C]⟩ : Shape) e) → Prop
  | nil : Strip G k 0 []
  | cons {j : ℕ} {off : Fin 2 → ℕ} {inb : ∀ a, off a + (![32, 128] : Fin 2 → ℕ) a ≤ (![R, C] : Fin 2 → ℕ) a}
      {pay : (⟨2, ![32, 128]⟩ : Shape).Idx → Elt Ideal e} {L : List (View.Piece (Elt Ideal) (⟨2, ![R, C]⟩ : Shape) e)}
      (hoff : off = ![32 * k, 128 * j])
      (hp : ∀ x, pay x = G ((Rect.unit (s := (⟨2, ![R, C]⟩ : Shape)) off ![32, 128] inb).emb x)) (h : Strip G k j L) :
      Strip G k (j + 1) (⟨Rect.unit (s := (⟨2, ![R, C]⟩ : Shape)) off ![32, 128] inb, pay⟩ :: L)

theorem Strip.pieces {G : (⟨2, ![R, C]⟩ : Shape).Idx → Elt Ideal e} {k n : ℕ} {L : List (View.Piece (Elt Ideal) (⟨2, ![R, C]⟩ : Shape) e)}
    (h : Strip G k n L) : ∀ p ∈ L, ∀ x : p.1.shape.Idx, p.2 x = G (p.1.emb x) := by
  induction h with
  | nil => intro p hp; exact absurd hp List.not_mem_nil
  | cons hoff hp _ ih =>
    intro p hm
    rcases List.mem_cons.mp hm with rfl | hm
    · exact hp
    · exact ih p hm

theorem Strip.cover {G : (⟨2, ![R, C]⟩ : Shape).Idx → Elt Ideal e} {k n : ℕ} {L : List (View.Piece (Elt Ideal) (⟨2, ![R, C]⟩ : Shape) e)}
    (h : Strip G k n L) (r : Fin R) (c : Fin C) (hr : r.val / 32 = k) (hc : c.val < 128 * n) :
    ∃ p ∈ L, (ix2 r c : (⟨2, ![R, C]⟩ : Shape).Idx) ∈ p.1.set := by
  induction h with
  | nil => omega
  | @cons j off inb pay L hoff hp _ ih =>
    by_cases hj : c.val < 128 * j
    · obtain ⟨p, hm, hy⟩ := ih hj
      exact ⟨p, List.mem_cons_of_mem _ hm, hy⟩
    · refine ⟨_, List.mem_cons_self, ?_⟩
      subst hoff
      rw [Rect.mem_set_unit]
      intro a
      match a with
      | ⟨0, _⟩ => show 32 * k ≤ r.val ∧ r.val < 32 * k + 32; omega
      | ⟨1, _⟩ => show 128 * j ≤ c.val ∧ c.val < 128 * j + 128; omega

/-- The place in the buffer of an entry of a block. -/
theorem unit_emb_ix2 {a b : ℕ} {off : Fin 2 → ℕ} {inb : ∀ x, off x + (![a, b] : Fin 2 → ℕ) x ≤ (![R, C] : Fin 2 → ℕ) x} {p q : ℕ}
    (hoff : off = ![p, q]) (r : Fin a) (l : Fin b) (hr : p + r.val < R) (hl : q + l.val < C) :
    (Rect.unit (s := (⟨2, ![R, C]⟩ : Shape)) off ![a, b] inb).emb (ix2 r l : (⟨2, ![a, b]⟩ : Shape).Idx)
      = (ix2 ⟨p + r.val, hr⟩ ⟨q + l.val, hl⟩ : (⟨2, ![R, C]⟩ : Shape).Idx) := by
  subst hoff
  funext x
  match x with
  | ⟨0, _⟩ => exact Fin.ext (by show p + 1 * r.val = p + r.val; omega)
  | ⟨1, _⟩ => exact Fin.ext (by show q + 1 * l.val = q + l.val; omega)

/-- A strip whose blocks are given entry by entry. -/
theorem Strip.cons' {G : (⟨2, ![R, C]⟩ : Shape).Idx → Elt Ideal e} {k j : ℕ} {off : Fin 2 → ℕ}
    {inb : ∀ a, off a + (![32, 128] : Fin 2 → ℕ) a ≤ (![R, C] : Fin 2 → ℕ) a}
    {pay : (⟨2, ![32, 128]⟩ : Shape).Idx → Elt Ideal e} {L : List (View.Piece (Elt Ideal) (⟨2, ![R, C]⟩ : Shape) e)}
    (hoff : off = ![32 * k, 128 * j])
    (hp : ∀ (r : Fin 32) (l : Fin 128) (hr : 32 * k + r.val < R) (hl : 128 * j + l.val < C),
      pay (ix2 r l) = G (ix2 ⟨32 * k + r.val, hr⟩ ⟨128 * j + l.val, hl⟩)) (h : Strip G k j L) :
    Strip G k (j + 1) (⟨Rect.unit (s := (⟨2, ![R, C]⟩ : Shape)) off ![32, 128] inb, pay⟩ :: L) := by
  refine Strip.cons hoff (fun x => ?_) h
  have h0 := inb 0
  have h1 := inb 1
  rw [hoff] at h0 h1
  have h0' : 32 * k + 32 ≤ R := h0
  have h1' : 128 * j + 128 ≤ C := h1
  obtain ⟨r, l, rfl⟩ : ∃ (r : Fin 32) (l : Fin 128), x = ix2 r l := ⟨x 0, x 1, by funext a; match a with | ⟨0, _⟩ => rfl | ⟨1, _⟩ => rfl⟩
  rw [unit_emb_ix2 hoff r l (by omega) (by omega)]
  exact hp r l _ _

/-- The stores of one more trip in front of those of the trips before it. -/
theorem grow {G : (⟨2, ![R, C]⟩ : Shape).Idx → Elt Ideal e} {n : ℕ} {L L' : List (View.Piece (Elt Ideal) (⟨2, ![R, C]⟩ : Shape) e)}
    (hp : ∀ p ∈ L, ∀ x : p.1.shape.Idx, p.2 x = G (p.1.emb x))
    (hc : ∀ (r : Fin R) (c : Fin C), r.val / 32 < n → ∃ p ∈ L, (ix2 r c : (⟨2, ![R, C]⟩ : Shape).Idx) ∈ p.1.set)
    (hp' : ∀ p ∈ L', ∀ x : p.1.shape.Idx, p.2 x = G (p.1.emb x))
    (hc' : ∀ (r : Fin R) (c : Fin C), r.val / 32 = n → ∃ p ∈ L', (ix2 r c : (⟨2, ![R, C]⟩ : Shape).Idx) ∈ p.1.set) :
    (∀ p ∈ L' ++ L, ∀ x : p.1.shape.Idx, p.2 x = G (p.1.emb x))
      ∧ ∀ (r : Fin R) (c : Fin C), r.val / 32 < n + 1 → ∃ p ∈ L' ++ L, (ix2 r c : (⟨2, ![R, C]⟩ : Shape).Idx) ∈ p.1.set := by
  constructor
  · intro p hm
    rcases List.mem_append.mp hm with hm | hm
    · exact hp' p hm
    · exact hp p hm
  · intro r c h
    by_cases hr : r.val / 32 = n
    · obtain ⟨p, hm, hy⟩ := hc' r c hr
      exact ⟨p, List.mem_append_left _ hm, hy⟩
    · obtain ⟨p, hm, hy⟩ := hc r c (by omega)
      exact ⟨p, List.mem_append_right _ hm, hy⟩

/-- The stores `L` are blocks of `G` and cover the first `32 n` rows. -/
def Filled (G : (⟨2, ![R, C]⟩ : Shape).Idx → Elt Ideal e) (n : ℕ) (L : List (View.Piece (Elt Ideal) (⟨2, ![R, C]⟩ : Shape) e)) : Prop :=
  (∀ p ∈ L, ∀ x : p.1.shape.Idx, p.2 x = G (p.1.emb x))
    ∧ ∀ (r : Fin R) (c : Fin C), r.val / 32 < n → ∃ p ∈ L, (ix2 r c : (⟨2, ![R, C]⟩ : Shape).Idx) ∈ p.1.set

theorem Filled.nil {G : (⟨2, ![R, C]⟩ : Shape).Idx → Elt Ideal e} : Filled G 0 [] :=
  ⟨fun _ hp => absurd hp List.not_mem_nil, fun _ _ h => absurd h (Nat.not_lt_zero _)⟩

/-- One more store, of 32 whole rows. -/
theorem Filled.rows {G : (⟨2, ![R, C]⟩ : Shape).Idx → Elt Ideal e} {n : ℕ} {L : List (View.Piece (Elt Ideal) (⟨2, ![R, C]⟩ : Shape) e)}
    (h : Filled G n L) {off : Fin 2 → ℕ} {inb : ∀ a, off a + (![32, C] : Fin 2 → ℕ) a ≤ (![R, C] : Fin 2 → ℕ) a}
    {pay : (⟨2, ![32, C]⟩ : Shape).Idx → Elt Ideal e} (hoff : off = ![32 * n, 0])
    (hp : ∀ (r : Fin 32) (l : Fin C) (hr : 32 * n + r.val < R) (hl : 0 + l.val < C),
      pay (ix2 r l) = G (ix2 ⟨32 * n + r.val, hr⟩ ⟨0 + l.val, hl⟩)) :
    Filled G (n + 1) ([⟨Rect.unit (s := (⟨2, ![R, C]⟩ : Shape)) off ![32, C] inb, pay⟩] ++ L) := by
  refine grow h.1 h.2 (fun p hm => ?_) (fun r c hr => ⟨_, List.mem_singleton_self _, ?_⟩)
  · rcases List.mem_singleton.mp hm with rfl
    intro x
    have h0 := inb 0
    rw [hoff] at h0
    have h0' : 32 * n + 32 ≤ R := h0
    obtain ⟨r, l, rfl⟩ : ∃ (r : Fin 32) (l : Fin C), x = ix2 r l := ⟨x 0, x 1, by funext a; match a with | ⟨0, _⟩ => rfl | ⟨1, _⟩ => rfl⟩
    show pay (ix2 r l) = _
    rw [unit_emb_ix2 hoff r l (by omega) (by omega)]
    exact hp r l _ _
  · subst hoff
    rw [Rect.mem_set_unit]
    intro a
    match a with
    | ⟨0, _⟩ => show 32 * n ≤ r.val ∧ r.val < 32 * n + 32; omega
    | ⟨1, _⟩ => show 0 ≤ c.val ∧ c.val < 0 + C; omega

/-- A buffer all of whose rows were stored reads `G`. -/
theorem Filled.read {sig : RefSig} {κ : Kind} {sp : Space} (v : View sig κ sp (⟨2, ![R, C]⟩ : Shape) e) (f : v.ty.Contents (Elt Ideal))
    {G : (⟨2, ![R, C]⟩ : Shape).Idx → Elt Ideal e} {n : ℕ} {L : List (View.Piece (Elt Ideal) (⟨2, ![R, C]⟩ : Shape) e)}
    (h : Filled G n L) (hn : R ≤ 32 * n) : v.read (Elt Ideal) (v.writes (Elt Ideal) f L) = G := by
  funext y
  refine View.read_writes_apply_of_pieces _ _ _ _ h.1 y ?_
  have hy : y = (ix2 (y 0) (y 1) : (⟨2, ![R, C]⟩ : Shape).Idx) := by funext a; match a with | ⟨0, _⟩ => rfl | ⟨1, _⟩ => rfl
  rw [hy]
  refine h.2 (y 0) (y 1) ?_
  have h0 : (y 0).val < R := (y 0).isLt
  omega

end Cert.Proof

end
-- ==== Proof.Lanes.Planes.lean ====
/- One 128-column plane of decoded weights: the two planes that the kernel forms, and the entries they hold. -/
module

public import proofs.«01_k».proof.Proof.Lanes.Fields
public import proofs.«01_k».proof.Proof.Lanes.Strip

@[expose] public section

set_option maxRecDepth 16384

noncomputable section

namespace Cert.Proof

open Idealize.ShloMosaic Cert.KernelIdeal Cert.KernelIdeal.Facts₀ Cert.KernelIdeal.Facts

/-- The zero plane. -/
def zeros : FVec Ideal S32x128 .f32 := broadcast S32x128 (Scalar.ofBits .f32 0x00000000#32)

/-- The outer plane: the value where both bits of the field are clear. -/
def outerPlane (j : Nat) (fw : IVec S8x128 32) (v : FVec Ideal S32x128 .fp8e4m3) : FVec Ideal S32x128 .fp8e4m3 :=
  shapeCast S32x128 (truncf .fp8e4m3 (select (cmpi .eq (masked j fw (muli lowBit (broadcast S8x128 3#32))) (broadcast S32x128 0#8))
    (extf .f32 v bitsLt_fp8e4m3_f32) zeros) bitsLt_fp8e4m3_f32) shapeCasts_S32x128_S32x128

/-- The neighbouring lane, before the wrap of negative numbers. -/
def neighbour : IVec S32x128 32 := xori (iota .tc S32x128 32 [1] iota_S32x128_d1_w32) (broadcast S32x128 1#32)

/-- The inner plane: the value where the field's low bit is set, else the neighbour's value where the neighbour's high bit is set. -/
def innerPlane (j : Nat) (fw : IVec S8x128 32) (v : FVec Ideal S32x128 .fp8e4m3) : FVec Ideal S32x128 .fp8e4m3 :=
  shapeCast S32x128 (truncf .fp8e4m3 (select (cmpi .ne (masked j fw lowBit) (broadcast S32x128 0#8)) (extf .f32 v bitsLt_fp8e4m3_f32)
    (dynamicGather 1
      (select (cmpi .ne (masked j fw (muli lowBit (broadcast S8x128 2#32))) (broadcast S32x128 0#8)) (extf .f32 v bitsLt_fp8e4m3_f32) zeros)
      (shapeCast S32x128 (shapeCast S32x128x1
        (select (cmpi .slt neighbour (broadcast S32x128 0#32)) (addi neighbour (broadcast S32x128 128#32)) neighbour)
        shapeCasts_S32x128_S32x128x1) shapeCasts_S32x128x1_S32x128))) bitsLt_fp8e4m3_f32) shapeCasts_S32x128_S32x128

/-- The neighbour of a column: `2 p ↔ 2 p + 1`. -/
def swap (c : ℕ) : ℕ := if c % 2 = 0 then c + 1 else c - 1

theorem swap_lt {c n : ℕ} (h : c < n) (hn : n % 2 = 0) : swap c < n := by unfold swap; split <;> omega

theorem neighbour_eq : ∀ l : Fin 128,
    (Scalar.select (IntOp.cmpi CmpIPredicate.slt (IntOp.xori (BitVec.ofNat 32 l.val) 1#32) 0#32)
      (IntOp.addi (IntOp.xori (BitVec.ofNat 32 l.val) 1#32) 128#32) (IntOp.xori (BitVec.ofNat 32 l.val) 1#32)).toNat % 128 = swap l.val := by
  decide +kernel

theorem zeros_apply (x : S32x128.Idx) : zeros x = (0 : EReal) := by
  show (Scalar.ofBits .f32 0x00000000#32 : Ideal .f32) = 0
  simp

theorem select_eq {α : Type} (x : BitVec 8) (a b : α) :
    Scalar.select (IntOp.cmpi CmpIPredicate.eq x 0#8) a b = if x = 0#8 then a else b := by
  unfold Scalar.select IntOp.cmpi
  by_cases h : x = 0#8
  · simp [h]
  · simp [h, show (x == 0#8) = false by simpa using h]

theorem select_ne {α : Type} (x : BitVec 8) (a b : α) :
    Scalar.select (IntOp.cmpi CmpIPredicate.ne x 0#8) a b = if x = 0#8 then b else a := by
  unfold Scalar.select IntOp.cmpi
  by_cases h : x = 0#8
  · simp [h]
  · simp [h, show (x != 0#8) = true by simpa using h]

/-- An entry of the outer plane. -/
theorem outerPlane_apply (j : Nat) (w : IVec S32x128 32) (v : FVec Ideal S32x128 .fp8e4m3) (r : Fin 32) (l : Fin 128) :
    outerPlane j (fieldWords (j / 4 % 4) w) v (ix2 r l)
      = if fieldOf w j r l 0 = false ∧ fieldOf w j r l 1 = false then (v (ix2 r l) : EReal) else (0 : EReal) := by
  unfold outerPlane
  pointwise []
  rw [zeros_apply, select_eq]
  simp only [masked_both]

/-- An entry of the inner plane. -/
theorem innerPlane_apply (j : Nat) (w : IVec S32x128 32) (v : FVec Ideal S32x128 .fp8e4m3) (r : Fin 32) (l : Fin 128) :
    innerPlane j (fieldWords (j / 4 % 4) w) v (ix2 r l)
      = if fieldOf w j r l 0 = true then (v (ix2 r l) : EReal)
        else if fieldOf w j r ⟨swap l.val, swap_lt l.isLt (by decide)⟩ 1 = true then (v (ix2 r ⟨swap l.val, swap_lt l.isLt (by decide)⟩) : EReal)
        else (0 : EReal) := by
  unfold innerPlane neighbour
  pointwise []
  rw [show (⟨_, _⟩ : Fin 128) = ⟨swap l.val, swap_lt l.isLt (by decide)⟩ from Fin.ext (neighbour_eq l)]
  rw [zeros_apply, select_ne, select_ne]
  simp only [masked_low, masked_high]
  cases fieldOf w j r l 0 <;> cases fieldOf w j r ⟨swap l.val, swap_lt l.isLt (by decide)⟩ 1 <;> rfl

/-- The bit `b` of the field of column `c` in row `r` of the index words. -/
def bitAt {R : ℕ} (W : (⟨2, ![R, 224]⟩ : Shape).Idx → BitVec 32) (r : Fin R) (c : Fin 3584) (b : ℕ) : Bool :=
  flag (W (ix2 r ⟨c.val / 16, by omega⟩)) (2 * (c.val % 16) + b)

/-- The outer half of the decoded weights. -/
def outerOf {R : ℕ} (V : (⟨2, ![R, 3584]⟩ : Shape).Idx → EReal) (W : (⟨2, ![R, 224]⟩ : Shape).Idx → BitVec 32)
    (y : (⟨2, ![R, 3584]⟩ : Shape).Idx) : EReal :=
  if bitAt W (y 0) (y 1) 0 = false ∧ bitAt W (y 0) (y 1) 1 = false then V y else 0

/-- The inner half of the decoded weights. -/
def innerOf {R : ℕ} (V : (⟨2, ![R, 3584]⟩ : Shape).Idx → EReal) (W : (⟨2, ![R, 224]⟩ : Shape).Idx → BitVec 32)
    (y : (⟨2, ![R, 3584]⟩ : Shape).Idx) : EReal :=
  if bitAt W (y 0) (y 1) 0 = true then V y
  else if bitAt W (y 0) ⟨swap (y 1).val, swap_lt (y 1).isLt (by show 3584 % 2 = 0; decide)⟩ 1 = true then
    V (ix2 (y 0) ⟨swap (y 1).val, swap_lt (y 1).isLt (by show 3584 % 2 = 0; decide)⟩)
  else 0

end Cert.Proof

end
-- ==== Proof.Lanes.Decode.lean ====
/- The decode loop: what its sixteen trips leave in the two weight buffers. -/
module

public import proofs.«01_k».proof.Proof.Gen.KernelIdeal.Loops
public import proofs.«01_k».proof.Proof.Lanes.Planes

@[expose] public section

set_option maxRecDepth 16384

noncomputable section

namespace Cert.Proof

open Idealize.ShloMosaic Idealize.ShloMosaic.TcCoe Cert.KernelIdeal Cert.KernelIdeal.Gen Idealize.SL.Sem

/-- The first 128 words of each of a trip's 32 rows. -/
def wordsLow (arg4 : Memref sig .tc .vmem S512x224 .i32) (X_arg4 : BufTy.Contents (Elt Ideal) arg4.view.ty) (k : Fin k0_t2_loop.trips) :
    IVec S32x128 32 :=
  arg4.view.readAt (Elt Ideal) (Rect.unit (s := S512x224) (k0_off31 k) S32x128.size (k0_off31_inb k)).toLoadRect X_arg4

/-- The other 96 words of each row, zeros after them. -/
def wordsHigh (arg4 : Memref sig .tc .vmem S512x224 .i32) (X_arg4 : BufTy.Contents (Elt Ideal) arg4.view.ty) (k : Fin k0_t2_loop.trips) :
    IVec S32x128 32 :=
  concatenate S32x128 1 [⟨S32x96, arg4.view.readAt (Elt Ideal) (Rect.unit (s := S512x224) (k0_off32 k) S32x96.size (k0_off32_inb k)).toLoadRect X_arg4⟩,
    ⟨S32x32, broadcast S32x32 0#32⟩] Facts₀.concatenates_S32x96_S32x32_S32x128_d1

/-- The words of plane `j`: the low half up to plane 15, the high half from plane 16 on. -/
def wordsOf (j : ℕ) (arg4 : Memref sig .tc .vmem S512x224 .i32) (X_arg4 : BufTy.Contents (Elt Ideal) arg4.view.ty) (k : Fin k0_t2_loop.trips) :
    IVec S32x128 32 :=
  if j < 16 then wordsLow arg4 X_arg4 k else wordsHigh arg4 X_arg4 k

theorem trips2 (k : Fin k0_t2_loop.trips) : k.val < 16 := lt_of_lt_of_le k.isLt k0_t2_abs.2.1

/-- The field of plane `j`, lane `l` is that of column `128 j + l`. -/
theorem fieldOf_words (arg4 : Memref sig .tc .vmem S512x224 .i32) (X_arg4 : BufTy.Contents (Elt Ideal) arg4.view.ty)
    (k : Fin k0_t2_loop.trips) (j : ℕ) (hj : j < 28) (r : Fin 32) (l : Fin 128) (b : ℕ) (hr : 32 * k.val + r.val < 512)
    (c : Fin 3584) (hc : c.val = 128 * j + l.val) :
    fieldOf (wordsOf j arg4 X_arg4 k) j r l b = bitAt (R := 512) (arg4.view.read (Elt Ideal) X_arg4) ⟨32 * k.val + r.val, hr⟩ c b := by
  have hk := trips2 k
  unfold fieldOf bitAt
  have e2 : 2 * (l.val % 16) + b = 2 * (c.val % 16) + b := by omega
  rw [e2]
  refine congrArg (fun x => flag x (2 * (c.val % 16) + b)) ?_
  unfold wordsOf
  split
  · rename_i h
    unfold wordsLow
    rw [View.readAt_apply]
    refine congrArg (arg4.view.read (Elt Ideal) X_arg4) ?_
    refine (unit_emb_ix2 (k0_off31_eq k) r _ (by omega) (by show 0 + (8 * (j % 16) + l.val / 16) < 224; omega)).trans ?_
    refine congrArg (fun x => ix2 _ x) (Fin.ext ?_)
    show 0 + (8 * (j % 16) + l.val / 16) = c.val / 16
    omega
  · rename_i h
    unfold wordsHigh
    pointwise []
    rw [dif_pos (show 8 * (j % 16) + l.val / 16 < 96 by omega), View.readAt_apply]
    refine congrArg (arg4.view.read (Elt Ideal) X_arg4) ?_
    refine (unit_emb_ix2 (k0_off32_eq k) r _ (by omega) (by show 128 + (8 * (j % 16) + l.val / 16) < 224; omega)).trans ?_
    refine congrArg (fun x => ix2 _ x) (Fin.ext ?_)
    show 128 + (8 * (j % 16) + l.val / 16) = c.val / 16
    omega

/-- One more outer plane. -/
theorem Strip.outer {arg3 : Memref sig .tc .vmem S512x3584 .fp8e4m3} {arg4 : Memref sig .tc .vmem S512x224 .i32}
    {X_arg3 : BufTy.Contents (Elt Ideal) arg3.view.ty} {X_arg4 : BufTy.Contents (Elt Ideal) arg4.view.ty} {k : Fin k0_t2_loop.trips}
    {j : ℕ} {off : Fin 2 → ℕ} {inb : ∀ a, off a + S32x128.size a ≤ S512x3584.size a}
    {pay : S32x128.Idx → Elt Ideal .fp8e4m3} {L : List (View.Piece (Elt Ideal) S512x3584 .fp8e4m3)}
    (hj : j < 28) (hoff : off = ![32 * k.val, 128 * j])
    (hpay : pay = outerPlane j (fieldWords (j / 4 % 4) (wordsOf j arg4 X_arg4 k))
      (arg3.view.readAt (Elt Ideal) (Rect.unit (s := S512x3584) off S32x128.size inb).toLoadRect X_arg3))
    (h : Strip (R := 512) (C := 3584) (e := .fp8e4m3)
      (outerOf (R := 512) (arg3.view.read (Elt Ideal) X_arg3) (arg4.view.read (Elt Ideal) X_arg4)) k.val j L) :
    Strip (R := 512) (C := 3584) (e := .fp8e4m3)
      (outerOf (R := 512) (arg3.view.read (Elt Ideal) X_arg3) (arg4.view.read (Elt Ideal) X_arg4)) k.val (j + 1)
      (⟨Rect.unit (s := S512x3584) off S32x128.size inb, pay⟩ :: L) := by
  refine Strip.cons' hoff (fun r l hr hl => ?_) h
  rw [hpay, outerPlane_apply, fieldOf_words arg4 X_arg4 k j hj r l 0 hr ⟨128 * j + l.val, hl⟩ rfl,
    fieldOf_words arg4 X_arg4 k j hj r l 1 hr ⟨128 * j + l.val, hl⟩ rfl, View.readAt_apply,
    show (Rect.unit (s := S512x3584) off S32x128.size inb).toLoadRect.idx (ix2 r l) = ix2 ⟨32 * k.val + r.val, hr⟩ ⟨128 * j + l.val, hl⟩
      from unit_emb_ix2 hoff r l hr hl]
  rfl

theorem swap_add (j l : ℕ) : swap (128 * j + l) = 128 * j + swap l := by unfold swap; split <;> split <;> omega

/-- One more inner plane. -/
theorem Strip.inner {arg3 : Memref sig .tc .vmem S512x3584 .fp8e4m3} {arg4 : Memref sig .tc .vmem S512x224 .i32}
    {X_arg3 : BufTy.Contents (Elt Ideal) arg3.view.ty} {X_arg4 : BufTy.Contents (Elt Ideal) arg4.view.ty} {k : Fin k0_t2_loop.trips}
    {j : ℕ} {off : Fin 2 → ℕ} {inb : ∀ a, off a + S32x128.size a ≤ S512x3584.size a}
    {pay : S32x128.Idx → Elt Ideal .fp8e4m3} {L : List (View.Piece (Elt Ideal) S512x3584 .fp8e4m3)}
    (hj : j < 28) (hoff : off = ![32 * k.val, 128 * j])
    (hpay : pay = innerPlane j (fieldWords (j / 4 % 4) (wordsOf j arg4 X_arg4 k))
      (arg3.view.readAt (Elt Ideal) (Rect.unit (s := S512x3584) off S32x128.size inb).toLoadRect X_arg3))
    (h : Strip (R := 512) (C := 3584) (e := .fp8e4m3)
      (innerOf (R := 512) (arg3.view.read (Elt Ideal) X_arg3) (arg4.view.read (Elt Ideal) X_arg4)) k.val j L) :
    Strip (R := 512) (C := 3584) (e := .fp8e4m3)
      (innerOf (R := 512) (arg3.view.read (Elt Ideal) X_arg3) (arg4.view.read (Elt Ideal) X_arg4)) k.val (j + 1)
      (⟨Rect.unit (s := S512x3584) off S32x128.size inb, pay⟩ :: L) := by
  refine Strip.cons' hoff (fun r l hr hl => ?_) h
  have hs : swap l.val < 128 := swap_lt l.isLt (by decide)
  have hl' : 128 * j + swap l.val < 3584 := by omega
  have hc : (⟨swap (128 * j + l.val), swap_lt hl (by decide)⟩ : Fin 3584) = ⟨128 * j + swap l.val, hl'⟩ := Fin.ext (swap_add j l.val)
  rw [hpay, innerPlane_apply, fieldOf_words arg4 X_arg4 k j hj r l 0 hr ⟨128 * j + l.val, hl⟩ rfl,
    fieldOf_words arg4 X_arg4 k j hj r ⟨swap l.val, hs⟩ 1 hr ⟨128 * j + swap l.val, hl'⟩ rfl, View.readAt_apply, View.readAt_apply,
    show (Rect.unit (s := S512x3584) off S32x128.size inb).toLoadRect.idx (ix2 r l) = ix2 ⟨32 * k.val + r.val, hr⟩ ⟨128 * j + l.val, hl⟩
      from unit_emb_ix2 hoff r l hr hl,
    show (Rect.unit (s := S512x3584) off S32x128.size inb).toLoadRect.idx (ix2 r ⟨swap l.val, hs⟩)
        = ix2 ⟨32 * k.val + r.val, hr⟩ ⟨128 * j + swap l.val, hl'⟩
      from unit_emb_ix2 hoff r ⟨swap l.val, hs⟩ hr hl', ← hc]
  rfl

/-- A trip's stores of the outer half. -/
theorem strip_outer (𝒱 : Variants) (c : Dev nD) (bd : Option 𝒱.V) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (X_arg3 : BufTy.Contents (Elt Ideal) arg3.view.ty) (X_arg4 : BufTy.Contents (Elt Ideal) arg4.view.ty) (k : Fin k0_t2_loop.trips) :
    Strip (R := 512) (C := 3584) (e := .fp8e4m3) (outerOf (R := 512) (arg3.view.read (Elt Ideal) X_arg3) (arg4.view.read (Elt Ideal) X_arg4)) k.val 28
      (trip_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg3 X_arg4 k).1 := by
  unfold trip_k0_t2
  dsimp only
  iterate 28 refine Strip.outer (by decide) (ClosedOff.eq.trans rfl) rfl ?_
  exact Strip.nil

/-- A trip's stores of the inner half. -/
theorem strip_inner (𝒱 : Variants) (c : Dev nD) (bd : Option 𝒱.V) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (X_arg3 : BufTy.Contents (Elt Ideal) arg3.view.ty) (X_arg4 : BufTy.Contents (Elt Ideal) arg4.view.ty) (k : Fin k0_t2_loop.trips) :
    Strip (R := 512) (C := 3584) (e := .fp8e4m3) (innerOf (R := 512) (arg3.view.read (Elt Ideal) X_arg3) (arg4.view.read (Elt Ideal) X_arg4)) k.val 28
      (trip_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg3 X_arg4 k).2.1 := by
  unfold trip_k0_t2
  dsimp only
  iterate 28 refine Strip.inner (by decide) (ClosedOff.eq.trans rfl) rfl ?_
  exact Strip.nil

/-- The stores of the first `n` trips of the decode loop are blocks of the two halves, and cover the first `32 n` rows. -/
theorem decoded (𝒱 : Variants) (c : Dev nD) (bd : Option 𝒱.V) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (X_arg3 : BufTy.Contents (Elt Ideal) arg3.view.ty) (X_arg4 : BufTy.Contents (Elt Ideal) arg4.view.ty) :
    ∀ n : ℕ, n ≤ k0_t2_loop.trips →
      ((∀ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg3 X_arg4 n).1, ∀ x : p.1.shape.Idx,
          p.2 x = outerOf (R := 512) (arg3.view.read (Elt Ideal) X_arg3) (arg4.view.read (Elt Ideal) X_arg4) (p.1.emb x))
        ∧ ∀ (r : Fin 512) (q : Fin 3584), r.val / 32 < n → ∃ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg3 X_arg4 n).1, (ix2 r q : S512x3584.Idx) ∈ p.1.set)
      ∧ ((∀ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg3 X_arg4 n).2, ∀ x : p.1.shape.Idx,
          p.2 x = innerOf (R := 512) (arg3.view.read (Elt Ideal) X_arg3) (arg4.view.read (Elt Ideal) X_arg4) (p.1.emb x))
        ∧ ∀ (r : Fin 512) (q : Fin 3584), r.val / 32 < n → ∃ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg3 X_arg4 n).2, (ix2 r q : S512x3584.Idx) ∈ p.1.set) := by
  intro n
  induction n with
  | zero =>
    intro _
    refine ⟨⟨fun p hp => absurd hp (by rw [pb_k0_t2]; exact List.not_mem_nil), fun r c h => by omega⟩,
      ⟨fun p hp => absurd hp (by rw [pb_k0_t2]; exact List.not_mem_nil), fun r c h => by omega⟩⟩
  | succ n ih =>
    intro hn
    obtain ⟨⟨hp, hc⟩, ⟨hp', hc'⟩⟩ := ih (by omega)
    have ho := strip_outer 𝒱 c bd i arg1 harg1 arg2 harg2 arg3 harg3 arg4 harg4 arg5 harg5 arg6 harg6 arg7 harg7 arg8 harg8 arg9 harg9 arg10 harg10 arg11 harg11 arg12 harg12 X_arg3 X_arg4 ⟨n, hn⟩
    have hi := strip_inner 𝒱 c bd i arg1 harg1 arg2 harg2 arg3 harg3 arg4 harg4 arg5 harg5 arg6 harg6 arg7 harg7 arg8 harg8 arg9 harg9 arg10 harg10 arg11 harg11 arg12 harg12 X_arg3 X_arg4 ⟨n, hn⟩
    have e := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 X_arg3 X_arg4 ⟨n, hn⟩
    rw [show pb_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg3 X_arg4 (n + 1) = _ from e]
    exact ⟨grow hp hc ho.pieces fun r c h => ho.cover r c h c.isLt, grow hp' hc' hi.pieces fun r c h => hi.cover r c h c.isLt⟩

theorem trips2_eq : k0_t2_loop.trips = 16 := by decide +kernel

/-- After the decode loop the outer buffer reads the outer half of the weights. -/
theorem decoded_outer (𝒱 : Variants) (c : Dev nD) (bd : Option 𝒱.V) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (X_arg3 : BufTy.Contents (Elt Ideal) arg3.view.ty) (X_arg4 : BufTy.Contents (Elt Ideal) arg4.view.ty) (G : BufTy.Contents (Elt Ideal) arg11.view.ty) :
    arg11.view.read (Elt Ideal) (arg11.view.writes (Elt Ideal) G (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg3 X_arg4 k0_t2_loop.trips).1)
      = outerOf (R := 512) (arg3.view.read (Elt Ideal) X_arg3) (arg4.view.read (Elt Ideal) X_arg4) := by
  obtain ⟨⟨hp, hc⟩, _⟩ := decoded 𝒱 c bd i arg1 harg1 arg2 harg2 arg3 harg3 arg4 harg4 arg5 harg5 arg6 harg6 arg7 harg7 arg8 harg8 arg9 harg9 arg10 harg10 arg11 harg11 arg12 harg12 X_arg3 X_arg4 _ le_rfl
  funext y
  refine View.read_writes_apply_of_pieces _ _ _ _ hp y ?_
  have hy : y = (ix2 (y 0) (y 1) : S512x3584.Idx) := by funext a; match a with | ⟨0, _⟩ => rfl | ⟨1, _⟩ => rfl
  rw [hy]
  refine hc (y 0) (y 1) ?_
  have h : (y 0).val < 512 := (y 0).isLt
  rw [trips2_eq]; omega

/-- After the decode loop the inner buffer reads the inner half of the weights. -/
theorem decoded_inner (𝒱 : Variants) (c : Dev nD) (bd : Option 𝒱.V) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (X_arg3 : BufTy.Contents (Elt Ideal) arg3.view.ty) (X_arg4 : BufTy.Contents (Elt Ideal) arg4.view.ty) (G : BufTy.Contents (Elt Ideal) arg12.view.ty) :
    arg12.view.read (Elt Ideal) (arg12.view.writes (Elt Ideal) G (pb_k0_t2 (F := Ideal) 𝒱 c bd i arg1 harg1 arg2 harg2 arg3 harg3 arg4 harg4 arg5 harg5 arg6 harg6 arg7 harg7 arg8 harg8 arg9 harg9 arg10 harg10 arg11 harg11 arg12 harg12 X_arg3 X_arg4 k0_t2_loop.trips).2)
      = innerOf (R := 512) (arg3.view.read (Elt Ideal) X_arg3) (arg4.view.read (Elt Ideal) X_arg4) := by
  obtain ⟨_, ⟨hp, hc⟩⟩ := decoded 𝒱 c bd i arg1 harg1 arg2 harg2 arg3 harg3 arg4 harg4 arg5 harg5 arg6 harg6 arg7 harg7 arg8 harg8 arg9 harg9 arg10 harg10 arg11 harg11 arg12 harg12 X_arg3 X_arg4 _ le_rfl
  funext y
  refine View.read_writes_apply_of_pieces _ _ _ _ hp y ?_
  have hy : y = (ix2 (y 0) (y 1) : S512x3584.Idx) := by funext a; match a with | ⟨0, _⟩ => rfl | ⟨1, _⟩ => rfl
  rw [hy]
  refine hc (y 0) (y 1) ?_
  have h : (y 0).val < 512 := (y 0).isLt
  rw [trips2_eq]; omega

end Cert.Proof

end
-- ==== Proof.Lanes.Rows.lean ====
/- One row of the quantiser: norm, largest magnitude, exponent, codes and scale; and the split of the codes into two halves. -/
module

public import proofs.«01_k».proof.Proof.Gen.KernelIdeal.Skeleton
public import proofs.«01_k».proof.Proof.Lanes.Planes

@[expose] public section

set_option maxRecDepth 16384

noncomputable section

namespace Cert.Proof

open Idealize.ShloMosaic Cert.KernelIdeal Cert.KernelIdeal.Facts₀ Cert.KernelIdeal.Facts
open Cert.KernelIdeal.Gen (k0_pay7 k0_pay8 k0_pay9 k0_pay10 k0_pay11)

/-- The normalised row: the entries times the reciprocal root of their mean square, times the weights. -/
def rowNorm (x w : Fin 7168 → EReal) (c : Fin 7168) : EReal :=
  x c * Ideal.rsqrt ((∑ q, x q * x q) * (Named.named κ "inv_d" 957499685#32 : Ideal .f32) + Ideal.ofBits FTy.f32 897988541#32) * w c

/-- The largest magnitude of the normalised row, over 448. -/
def rowPeak (x w : Fin 7168 → EReal) : EReal :=
  Finset.fold max (Ideal.ofBits FTy.f32 4286578688#32) (fun q => (FloatOps.absf (F := Ideal) (φ := .f32) (rowNorm x w q) : EReal)) Finset.univ
    * Ideal.ofBits FTy.f32 991054117#32

/-- How many of the powers `2 ^ -126 … 2 ^ 128` the value reaches. -/
def powerCount (t : EReal) : BitVec 32 :=
  Finset.fold IntOp.addi (0#32)
    (fun q : Fin 256 => Scalar.select
      (IntOp.andi (IntOp.cmpi CmpIPredicate.slt (BitVec.ofNat 32 q.val) 255#32)
        (BitVec.ofBool (decide (Ideal.ofBits FTy.f32 (IntOp.shli ArithUnit.vector (IntOp.addi (BitVec.ofNat 32 q.val) 1#32) 23#32) ≤ t))))
      1#32 0#32) Finset.univ

/-- The exponent of a count, as a word. -/
def expoWord (n : BitVec 32) : BitVec 32 := Scalar.select (IntOp.cmpi CmpIPredicate.eq n 0#32) (0#32) (IntOp.subi n 126#32)

/-- The code of a value at a count. -/
def codeOf (v : EReal) (n : BitVec 32) : EReal :=
  min (Ideal.ofBits FTy.f32 1138753536#32) (max (Ideal.ofBits FTy.f32 3286237184#32)
    (v * Ideal.ofBits FTy.f32 (IntOp.shli ArithUnit.vector (IntOp.subi (127#32) (expoWord n)) 23#32)))

/-- The scale of a count. -/
def scaleOf (n : BitVec 32) : EReal := Ideal.ofBits FTy.f32 (IntOp.shli ArithUnit.vector (IntOp.addi (127#32) (expoWord n)) 23#32)

theorem norm_apply (x : FVec Ideal S32x7168 .bf16) (w : FVec Ideal S1x7168 .f32) (r : Fin 32) (c : Fin 7168) :
    (k0_pay7 (F := Ideal) x w (ix2 r c) : EReal) = rowNorm (fun q => x (ix2 r q)) (fun q => w (ix2 0 q)) c := by
  pointwise [k0_pay7]
  rfl

theorem count_apply (x : FVec Ideal S32x7168 .bf16) (w : FVec Ideal S1x7168 .f32) (r : Fin 32) :
    k0_pay8 (F := Ideal) x w (ix1 r) = powerCount (rowPeak (fun q => x (ix2 r q)) (fun q => w (ix2 0 q))) := by
  have h : (fun q => (FloatOps.absf (F := Ideal) (φ := .f32) (k0_pay7 (F := Ideal) x w (ix2 r q)) : EReal))
      = fun q => (FloatOps.absf (F := Ideal) (φ := .f32) (rowNorm (fun q => x (ix2 r q)) (fun q => w (ix2 0 q)) q) : EReal) :=
    funext fun q => congrArg _ (norm_apply x w r q)
  unfold powerCount rowPeak
  rw [← h]
  pointwise [k0_pay8]

theorem codes_apply (x : FVec Ideal S32x7168 .bf16) (w : FVec Ideal S1x7168 .f32) (r : Fin 32) (c : Fin 7168) :
    (k0_pay10 (F := Ideal) (k0_pay7 (F := Ideal) x w) (k0_pay8 (F := Ideal) x w) (ix2 r c) : EReal)
      = codeOf (rowNorm (fun q => x (ix2 r q)) (fun q => w (ix2 0 q)) c) (powerCount (rowPeak (fun q => x (ix2 r q)) (fun q => w (ix2 0 q)))) := by
  rw [← count_apply, ← norm_apply]
  pointwise [k0_pay10, k0_pay9]
  rfl

theorem scale_apply (x : FVec Ideal S32x7168 .bf16) (w : FVec Ideal S1x7168 .f32) (r : Fin 32) (l : Fin 128) :
    (k0_pay11 (F := Ideal) (k0_pay8 (F := Ideal) x w) (ix2 r l) : EReal)
      = scaleOf (powerCount (rowPeak (fun q => x (ix2 r q)) (fun q => w (ix2 0 q)))) := by
  rw [← count_apply]
  pointwise [k0_pay11, k0_pay9]
  rfl

/-- The codes of 256 rows. -/
def codesOf (X : S256x7168.Idx → EReal) (W : S1x7168.Idx → EReal) (y : S256x7168.Idx) : EReal :=
  codeOf (rowNorm (fun q => X (ix2 (y 0) q)) (fun q => W (ix2 0 q)) (y 1))
    (powerCount (rowPeak (fun q => X (ix2 (y 0) q)) (fun q => W (ix2 0 q))))

/-- The scales of 256 rows, the same in every lane. -/
def scalesOf (X : S256x7168.Idx → EReal) (W : S1x7168.Idx → EReal) (y : S256x128.Idx) : EReal :=
  scaleOf (powerCount (rowPeak (fun q => X (ix2 (y 0) q)) (fun q => W (ix2 0 q))))

/-- The lane number at every position of a [32, 128] array. -/
def lanes : IVec S32x128 32 := iota .tc S32x128 32 [1] iota_S32x128_d1_w32

/-- Where an outer code lies among 128 columns. -/
def outerPlace : IVec S32x128 32 :=
  addi (muli (broadcast S32x128 4#32) (shrsi (andi lanes (broadcast S32x128 63#32)) (broadcast S32x128 1#32)))
    (muli (broadcast S32x128 3#32) (andi lanes (broadcast S32x128 1#32)))

/-- Where an inner code lies among 128 columns. -/
def innerPlace : IVec S32x128 32 :=
  addi (addi (muli (broadcast S32x128 4#32) (shrsi (andi lanes (broadcast S32x128 63#32)) (broadcast S32x128 1#32))) (broadcast S32x128 1#32))
    (andi lanes (broadcast S32x128 1#32))

/-- The gather of one plane's 128 columns from 256 columns of codes. -/
def splitPlane (place : IVec S32x128 32) (o : ℕ) (h0 : S32x7168.Slices ![0, o] S32x128) (h1 : S32x7168.Slices ![0, o + 128] S32x128)
    (codes : FVec Ideal S32x7168 .fp8e4m3) : FVec Ideal S32x128 .fp8e4m3 :=
  shapeCast S32x128 (truncf .fp8e4m3 (select (cmpi .slt lanes (broadcast S32x128 64#32))
    (dynamicGather 1 (extf .f32 (extractStridedSlice S32x128 ![0, o] codes h0) bitsLt_fp8e4m3_f32)
      (shapeCast S32x128 (shapeCast S32x128x1
        (select (cmpi .slt place (broadcast S32x128 0#32)) (addi place (broadcast S32x128 128#32)) place)
        shapeCasts_S32x128_S32x128x1) shapeCasts_S32x128x1_S32x128))
    (dynamicGather 1 (extf .f32 (extractStridedSlice S32x128 ![0, o + 128] codes h1) bitsLt_fp8e4m3_f32)
      (shapeCast S32x128 (shapeCast S32x128x1
        (select (cmpi .slt place (broadcast S32x128 0#32)) (addi place (broadcast S32x128 128#32)) place)
        shapeCasts_S32x128_S32x128x1) shapeCasts_S32x128x1_S32x128))) bitsLt_fp8e4m3_f32) shapeCasts_S32x128_S32x128

/-- The dense column of an outer entry. -/
def outerCol (c : ℕ) : ℕ := 4 * (c / 2) + 3 * (c % 2)

/-- The dense column of an inner entry. -/
def innerCol (c : ℕ) : ℕ := 4 * (c / 2) + 1 + c % 2

theorem outerCol_lt {c n : ℕ} (h : c < 2 * n) : outerCol c < 4 * n := by unfold outerCol; omega
theorem innerCol_lt {c n : ℕ} (h : c < 2 * n) : innerCol c < 4 * n := by unfold innerCol; omega

theorem select_low (l : Fin 128) (a b : EReal) :
    Scalar.select (IntOp.cmpi CmpIPredicate.slt (BitVec.ofNat 32 l.val) 64#32) a b = if l.val < 64 then a else b := by
  have := (show ∀ l : Fin 128, IntOp.cmpi CmpIPredicate.slt (BitVec.ofNat 32 l.val) 64#32 = if l.val < 64 then 1#1 else 0#1 by decide +kernel) l
  rw [this]; split <;> simp [Scalar.select]

/-- A gather at a place below 128: the columns `place` of the two slices, by the lane's half. -/
theorem splitPlane_apply (place : IVec S32x128 32) (f : ℕ → ℕ) (o : ℕ) (h0 : S32x7168.Slices ![0, o] S32x128)
    (h1 : S32x7168.Slices ![0, o + 128] S32x128) (codes : FVec Ideal S32x7168 .fp8e4m3) (r : Fin 32) (l : Fin 128)
    (hf : (Scalar.select (IntOp.cmpi CmpIPredicate.slt (place (ix2 r l)) 0#32) (IntOp.addi (place (ix2 r l)) 128#32) (place (ix2 r l))).toNat % 128
      = f (l.val % 64))
    (hadd : f l.val = f (l.val % 64) + 128 * (l.val / 64)) (hlt : o + f l.val < 7168) :
    splitPlane place o h0 h1 codes (ix2 r l) = codes (ix2 r ⟨o + f l.val, hlt⟩) := by
  unfold splitPlane lanes
  pointwise []
  refine (select_low l _ _).trans ?_
  by_cases h : l.val < 64
  · rw [if_pos h]
    refine congrArg (fun x => codes (ix2 r x)) (Fin.ext ?_)
    show o + _ % 128 = o + f l.val
    rw [hf]; omega
  · rw [if_neg h]
    refine congrArg (fun x => codes (ix2 r x)) (Fin.ext ?_)
    show o + 128 + _ % 128 = o + f l.val
    rw [hf]; omega

theorem outerPlace_eq (r : Fin 32) : ∀ l : Fin 128, (Scalar.select (IntOp.cmpi CmpIPredicate.slt (outerPlace (ix2 r l)) 0#32)
    (IntOp.addi (outerPlace (ix2 r l)) 128#32) (outerPlace (ix2 r l))).toNat % 128 = outerCol (l.val % 64) := by
  intro l
  unfold outerPlace lanes outerCol
  pointwise []
  revert l
  decide +kernel

theorem innerPlace_eq (r : Fin 32) : ∀ l : Fin 128, (Scalar.select (IntOp.cmpi CmpIPredicate.slt (innerPlace (ix2 r l)) 0#32)
    (IntOp.addi (innerPlace (ix2 r l)) 128#32) (innerPlace (ix2 r l))).toNat % 128 = innerCol (l.val % 64) := by
  intro l
  unfold innerPlace lanes innerCol
  pointwise []
  revert l
  decide +kernel

end Cert.Proof

end
-- ==== Proof.Lanes.Quantise.lean ====
/- The quantise loop: what its eight trips leave in the codes, the scales and the two halves of the codes. -/
module

public import proofs.«01_k».proof.Proof.Gen.KernelIdeal.Loops
public import proofs.«01_k».proof.Proof.Lanes.Rows

@[expose] public section

set_option maxRecDepth 16384

noncomputable section

namespace Cert.Proof

open Idealize.ShloMosaic Idealize.ShloMosaic.TcCoe Cert.KernelIdeal Cert.KernelIdeal.Gen Idealize.SL.Sem

theorem trips1 (k : Fin k0_t1_loop.trips) : k.val < 8 := lt_of_lt_of_le k.isLt k0_t1_abs.2.1

theorem off1_inb : ∀ k : Fin k0_t1_loop.trips, ∀ a, (k0_off1 k) a + S32x7168.size a ≤ S256x7168.size a := by decide +kernel

theorem whole2_inb : ∀ a, (![0, 0] : Fin 2 → ℕ) a + S1x7168.size a ≤ S1x7168.size a := by decide

/-- A trip's 32 rows of inputs. -/
def tripRows (arg1 : Memref sig .tc .vmem S256x7168 .bf16) (X_arg1 : BufTy.Contents (Elt Ideal) arg1.view.ty) (k : Fin k0_t1_loop.trips) :
    FVec Ideal S32x7168 .bf16 :=
  arg1.view.readAt (Elt Ideal) (Rect.unit (s := S256x7168) (k0_off1 k) S32x7168.size (off1_inb k)).toLoadRect X_arg1

/-- The norm weights. -/
def normWeights (arg2 : Memref sig .tc .vmem S1x7168 .f32) (X_arg2 : BufTy.Contents (Elt Ideal) arg2.view.ty) : FVec Ideal S1x7168 .f32 :=
  arg2.view.readAt (Elt Ideal) (Rect.unit (s := S1x7168) ![0, 0] S1x7168.size whole2_inb).toLoadRect X_arg2

/-- A trip's codes. -/
def tripCodes (arg1 : Memref sig .tc .vmem S256x7168 .bf16) (arg2 : Memref sig .tc .vmem S1x7168 .f32)
    (X_arg1 : BufTy.Contents (Elt Ideal) arg1.view.ty) (X_arg2 : BufTy.Contents (Elt Ideal) arg2.view.ty) (k : Fin k0_t1_loop.trips) :
    FVec Ideal S32x7168 .fp8e4m3 :=
  k0_pay10 (F := Ideal) (k0_pay7 (F := Ideal) (tripRows arg1 X_arg1 k) (normWeights arg2 X_arg2))
    (k0_pay8 (F := Ideal) (tripRows arg1 X_arg1 k) (normWeights arg2 X_arg2))

theorem tripRows_apply (arg1 : Memref sig .tc .vmem S256x7168 .bf16) (X_arg1 : BufTy.Contents (Elt Ideal) arg1.view.ty)
    (k : Fin k0_t1_loop.trips) (r : Fin 32) (c : Fin 7168) (hr : 32 * k.val + r.val < 256) :
    tripRows arg1 X_arg1 k (ix2 r c) = arg1.view.read (Elt Ideal) X_arg1 (ix2 ⟨32 * k.val + r.val, hr⟩ c) := by
  unfold tripRows
  rw [View.readAt_apply]
  refine congrArg (arg1.view.read (Elt Ideal) X_arg1) ?_
  refine (unit_emb_ix2 (k0_off1_eq k) r c hr (by show 0 + c.val < 7168; omega)).trans ?_
  exact congrArg (fun x => ix2 _ x) (Fin.ext (Nat.zero_add _))

theorem normWeights_apply (arg2 : Memref sig .tc .vmem S1x7168 .f32) (X_arg2 : BufTy.Contents (Elt Ideal) arg2.view.ty) (c : Fin 7168) :
    normWeights arg2 X_arg2 (ix2 0 c) = arg2.view.read (Elt Ideal) X_arg2 (ix2 0 c) := by
  unfold normWeights
  rw [View.readAt_apply]
  refine congrArg (arg2.view.read (Elt Ideal) X_arg2) ?_
  refine (unit_emb_ix2 rfl (0 : Fin 1) c (by decide) (by show 0 + c.val < 7168; omega)).trans ?_
  exact congrArg (fun x => ix2 _ x) (Fin.ext (Nat.zero_add _))

theorem tripCodes_apply (arg1 : Memref sig .tc .vmem S256x7168 .bf16) (arg2 : Memref sig .tc .vmem S1x7168 .f32)
    (X_arg1 : BufTy.Contents (Elt Ideal) arg1.view.ty) (X_arg2 : BufTy.Contents (Elt Ideal) arg2.view.ty) (k : Fin k0_t1_loop.trips)
    (r : Fin 32) (c : Fin 7168) (hr : 32 * k.val + r.val < 256) :
    tripCodes arg1 arg2 X_arg1 X_arg2 k (ix2 r c)
      = codesOf (arg1.view.read (Elt Ideal) X_arg1) (arg2.view.read (Elt Ideal) X_arg2) (ix2 ⟨32 * k.val + r.val, hr⟩ c) := by
  refine (codes_apply _ _ r c).trans ?_
  simp only [tripRows_apply _ _ _ _ _ hr, normWeights_apply]
  rfl

theorem slices_of {o : ℕ} (h : o + 128 ≤ 7168) : S32x7168.Slices ![0, o] S32x128 :=
  ⟨rfl, fun a => by match a with | ⟨0, _⟩ => show 0 + 32 ≤ 32; omega | ⟨1, _⟩ => exact h⟩

/-- The columns `f` of the codes. -/
def half (f : ℕ → ℕ) (C : S256x7168.Idx → EReal) (y : S256x3584.Idx) : EReal :=
  C (ix2 (y 0) ⟨f (y 1).val % 7168, Nat.mod_lt _ (by decide)⟩)

/-- One more plane of outer codes. -/
theorem Strip.outerCodes {arg1 : Memref sig .tc .vmem S256x7168 .bf16} {arg2 : Memref sig .tc .vmem S1x7168 .f32}
    {X_arg1 : BufTy.Contents (Elt Ideal) arg1.view.ty} {X_arg2 : BufTy.Contents (Elt Ideal) arg2.view.ty} {k : Fin k0_t1_loop.trips}
    {j : ℕ} {off : Fin 2 → ℕ} {inb : ∀ a, off a + S32x128.size a ≤ S256x3584.size a}
    {pay : S32x128.Idx → Elt Ideal .fp8e4m3} {L : List (View.Piece (Elt Ideal) S256x3584 .fp8e4m3)}
    (hj : j < 28) (hoff : off = ![32 * k.val, 128 * j])
    (hpay : pay = splitPlane outerPlace (256 * j) (slices_of (by omega)) (slices_of (by omega)) (tripCodes arg1 arg2 X_arg1 X_arg2 k))
    (h : Strip (R := 256) (C := 3584) (e := .fp8e4m3)
      (half outerCol (codesOf (arg1.view.read (Elt Ideal) X_arg1) (arg2.view.read (Elt Ideal) X_arg2))) k.val j L) :
    Strip (R := 256) (C := 3584) (e := .fp8e4m3)
      (half outerCol (codesOf (arg1.view.read (Elt Ideal) X_arg1) (arg2.view.read (Elt Ideal) X_arg2))) k.val (j + 1)
      (⟨Rect.unit (s := S256x3584) off S32x128.size inb, pay⟩ :: L) := by
  refine Strip.cons' hoff (fun r l hr hl => ?_) h
  have hlt : 256 * j + outerCol l.val < 7168 := by have := outerCol_lt (n := 64) l.isLt; omega
  rw [hpay, splitPlane_apply outerPlace outerCol (256 * j) _ _ _ r l (outerPlace_eq r l) (by unfold outerCol; omega) hlt,
    tripCodes_apply arg1 arg2 X_arg1 X_arg2 k r _ hr]
  have hcol : outerCol (128 * j + l.val) = 256 * j + outerCol l.val := by unfold outerCol; omega
  have hm : outerCol (128 * j + l.val) % 7168 = 256 * j + outerCol l.val := by rw [hcol, Nat.mod_eq_of_lt hlt]
  refine congrArg (fun x => codesOf _ _ (ix2 (⟨32 * k.val + r.val, hr⟩ : Fin 256) x)) (Fin.ext hm.symm)

/-- One more plane of inner codes. -/
theorem Strip.innerCodes {arg1 : Memref sig .tc .vmem S256x7168 .bf16} {arg2 : Memref sig .tc .vmem S1x7168 .f32}
    {X_arg1 : BufTy.Contents (Elt Ideal) arg1.view.ty} {X_arg2 : BufTy.Contents (Elt Ideal) arg2.view.ty} {k : Fin k0_t1_loop.trips}
    {j : ℕ} {off : Fin 2 → ℕ} {inb : ∀ a, off a + S32x128.size a ≤ S256x3584.size a}
    {pay : S32x128.Idx → Elt Ideal .fp8e4m3} {L : List (View.Piece (Elt Ideal) S256x3584 .fp8e4m3)}
    (hj : j < 28) (hoff : off = ![32 * k.val, 128 * j])
    (hpay : pay = splitPlane innerPlace (256 * j) (slices_of (by omega)) (slices_of (by omega)) (tripCodes arg1 arg2 X_arg1 X_arg2 k))
    (h : Strip (R := 256) (C := 3584) (e := .fp8e4m3)
      (half innerCol (codesOf (arg1.view.read (Elt Ideal) X_arg1) (arg2.view.read (Elt Ideal) X_arg2))) k.val j L) :
    Strip (R := 256) (C := 3584) (e := .fp8e4m3)
      (half innerCol (codesOf (arg1.view.read (Elt Ideal) X_arg1) (arg2.view.read (Elt Ideal) X_arg2))) k.val (j + 1)
      (⟨Rect.unit (s := S256x3584) off S32x128.size inb, pay⟩ :: L) := by
  refine Strip.cons' hoff (fun r l hr hl => ?_) h
  have hlt : 256 * j + innerCol l.val < 7168 := by have := innerCol_lt (n := 64) l.isLt; omega
  rw [hpay, splitPlane_apply innerPlace innerCol (256 * j) _ _ _ r l (innerPlace_eq r l) (by unfold innerCol; omega) hlt,
    tripCodes_apply arg1 arg2 X_arg1 X_arg2 k r _ hr]
  have hcol : innerCol (128 * j + l.val) = 256 * j + innerCol l.val := by unfold innerCol; omega
  have hm : innerCol (128 * j + l.val) % 7168 = 256 * j + innerCol l.val := by rw [hcol, Nat.mod_eq_of_lt hlt]
  refine congrArg (fun x => codesOf _ _ (ix2 (⟨32 * k.val + r.val, hr⟩ : Fin 256) x)) (Fin.ext hm.symm)

/-- A trip's stores of the outer codes. -/
theorem strip_xa (𝒱 : Variants) (c : Dev nD) (bd : Option 𝒱.V) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (k0_h1 : k0_cond1 i = 1#1) (X_arg1 : BufTy.Contents (Elt Ideal) arg1.view.ty) (X_arg2 : BufTy.Contents (Elt Ideal) arg2.view.ty) (k : Fin k0_t1_loop.trips) :
    Strip (R := 256) (C := 3584) (e := .fp8e4m3) (half outerCol (codesOf (arg1.view.read (Elt Ideal) X_arg1) (arg2.view.read (Elt Ideal) X_arg2))) k.val 28
      (trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k).2.2.1 := by
  unfold trip_k0_t1
  dsimp only
  iterate 28 refine Strip.outerCodes (by decide) (ClosedOff.eq.trans rfl) rfl ?_
  exact Strip.nil

/-- A trip's stores of the inner codes. -/
theorem strip_xb (𝒱 : Variants) (c : Dev nD) (bd : Option 𝒱.V) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (k0_h1 : k0_cond1 i = 1#1) (X_arg1 : BufTy.Contents (Elt Ideal) arg1.view.ty) (X_arg2 : BufTy.Contents (Elt Ideal) arg2.view.ty) (k : Fin k0_t1_loop.trips) :
    Strip (R := 256) (C := 3584) (e := .fp8e4m3) (half innerCol (codesOf (arg1.view.read (Elt Ideal) X_arg1) (arg2.view.read (Elt Ideal) X_arg2))) k.val 28
      (trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k).2.2.2.1 := by
  unfold trip_k0_t1
  dsimp only
  iterate 28 refine Strip.innerCodes (by decide) (ClosedOff.eq.trans rfl) rfl ?_
  exact Strip.nil

/-- A trip's one store of codes. -/
theorem trip_codes (𝒱 : Variants) (c : Dev nD) (bd : Option 𝒱.V) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (k0_h1 : k0_cond1 i = 1#1) (X_arg1 : BufTy.Contents (Elt Ideal) arg1.view.ty) (X_arg2 : BufTy.Contents (Elt Ideal) arg2.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k).1 = [⟨Rect.unit (s := S256x7168) (k0_off1 k) S32x7168.size (off1_inb k), tripCodes arg1 arg2 X_arg1 X_arg2 k⟩] := by
  unfold trip_k0_t1
  rfl

theorem off2_inb : ∀ k : Fin k0_t1_loop.trips, ∀ a, (k0_off2 k) a + S32x128.size a ≤ S256x128.size a := by decide +kernel

/-- A trip's one store of scales. -/
theorem trip_scales (𝒱 : Variants) (c : Dev nD) (bd : Option 𝒱.V) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (k0_h1 : k0_cond1 i = 1#1) (X_arg1 : BufTy.Contents (Elt Ideal) arg1.view.ty) (X_arg2 : BufTy.Contents (Elt Ideal) arg2.view.ty) (k : Fin k0_t1_loop.trips) :
    (trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k).2.1 = [⟨Rect.unit (s := S256x128) (k0_off2 k) S32x128.size (off2_inb k),
      k0_pay11 (F := Ideal) (k0_pay8 (F := Ideal) (tripRows arg1 X_arg1 k) (normWeights arg2 X_arg2))⟩] := by
  unfold trip_k0_t1
  rfl

theorem norm_scale (arg1 : Memref sig .tc .vmem S256x7168 .bf16) (arg2 : Memref sig .tc .vmem S1x7168 .f32)
    (X_arg1 : BufTy.Contents (Elt Ideal) arg1.view.ty) (X_arg2 : BufTy.Contents (Elt Ideal) arg2.view.ty) (k : Fin k0_t1_loop.trips)
    (r : Fin 32) (l : Fin 128) (hr : 32 * k.val + r.val < 256) (hl : 0 + l.val < 128) :
    k0_pay11 (F := Ideal) (k0_pay8 (F := Ideal) (tripRows arg1 X_arg1 k) (normWeights arg2 X_arg2)) (ix2 r l)
      = scalesOf (arg1.view.read (Elt Ideal) X_arg1) (arg2.view.read (Elt Ideal) X_arg2) (ix2 ⟨32 * k.val + r.val, hr⟩ ⟨0 + l.val, hl⟩) := by
  refine (scale_apply _ _ r l).trans ?_
  simp only [tripRows_apply _ _ _ _ _ hr, normWeights_apply]
  rfl

/-- The stores of the first `n` trips of the quantise loop are blocks of the codes, the scales and the two halves, and cover the first `32 n` rows. -/
theorem quantised (𝒱 : Variants) (c : Dev nD) (bd : Option 𝒱.V) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (k0_h1 : k0_cond1 i = 1#1) (X_arg1 : BufTy.Contents (Elt Ideal) arg1.view.ty) (X_arg2 : BufTy.Contents (Elt Ideal) arg2.view.ty) :
    ∀ n : ℕ, n ≤ k0_t1_loop.trips →
      Filled (R := 256) (C := 7168) (e := .fp8e4m3) (codesOf (arg1.view.read (Elt Ideal) X_arg1) (arg2.view.read (Elt Ideal) X_arg2)) n (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 n).1
      ∧ Filled (R := 256) (C := 128) (e := .f32) (scalesOf (arg1.view.read (Elt Ideal) X_arg1) (arg2.view.read (Elt Ideal) X_arg2)) n (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 n).2.1
      ∧ Filled (R := 256) (C := 3584) (e := .fp8e4m3) (half outerCol (codesOf (arg1.view.read (Elt Ideal) X_arg1) (arg2.view.read (Elt Ideal) X_arg2))) n (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 n).2.2.1
      ∧ Filled (R := 256) (C := 3584) (e := .fp8e4m3) (half innerCol (codesOf (arg1.view.read (Elt Ideal) X_arg1) (arg2.view.read (Elt Ideal) X_arg2))) n (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 n).2.2.2 := by
  intro n
  induction n with
  | zero =>
    intro _
    rw [pb_k0_t1]
    exact ⟨Filled.nil, Filled.nil, Filled.nil, Filled.nil⟩
  | succ n ih =>
    intro hn
    obtain ⟨h1, h2, h3, h4⟩ := ih (by omega)
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 (n + 1) = _ from e]
    have a := strip_xa 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩
    have b := strip_xb 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩
    refine ⟨?_, ?_, grow h3.1 h3.2 a.pieces fun r q h => a.cover r q h q.isLt, grow h4.1 h4.2 b.pieces fun r q h => b.cover r q h q.isLt⟩
    · show Filled _ _ ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩).1 ++ _)
      rw [trip_codes 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩]
      exact h1.rows (ClosedOff.eq.trans rfl) fun r l hr hl => (tripCodes_apply arg1 arg2 X_arg1 X_arg2 ⟨n, hn⟩ r l hr).trans
        (congrArg (fun x => codesOf _ _ (ix2 _ x)) (Fin.ext (Nat.zero_add _).symm))
    · show Filled _ _ ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩).2.1 ++ _)
      rw [trip_scales 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩]
      exact h2.rows (ClosedOff.eq.trans rfl) fun r l hr hl => norm_scale arg1 arg2 X_arg1 X_arg2 ⟨n, hn⟩ r l hr hl

theorem trips1_eq : k0_t1_loop.trips = 8 := by decide +kernel

/-- After the quantise loop the buffer of the codes reads the codes. -/
theorem quantised_codes (𝒱 : Variants) (c : Dev nD) (bd : Option 𝒱.V) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (k0_h1 : k0_cond1 i = 1#1) (X_arg1 : BufTy.Contents (Elt Ideal) arg1.view.ty) (X_arg2 : BufTy.Contents (Elt Ideal) arg2.view.ty) (G : BufTy.Contents (Elt Ideal) arg7.view.ty) :
    arg7.view.read (Elt Ideal) (arg7.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k0_t1_loop.trips).1)
      = codesOf (arg1.view.read (Elt Ideal) X_arg1) (arg2.view.read (Elt Ideal) X_arg2) :=
  Filled.read arg7.view G ((quantised 𝒱 c bd i arg1 harg1 arg2 harg2 arg3 harg3 arg4 harg4 arg5 harg5 arg6 harg6 arg7 harg7 arg8 harg8 arg9 harg9 arg10 harg10 arg11 harg11 arg12 harg12 k0_h1 X_arg1 X_arg2 _ le_rfl).1) (by rw [trips1_eq])

/-- After the quantise loop the buffer of the scales reads the scales. -/
theorem quantised_scales (𝒱 : Variants) (c : Dev nD) (bd : Option 𝒱.V) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (k0_h1 : k0_cond1 i = 1#1) (X_arg1 : BufTy.Contents (Elt Ideal) arg1.view.ty) (X_arg2 : BufTy.Contents (Elt Ideal) arg2.view.ty) (G : BufTy.Contents (Elt Ideal) arg8.view.ty) :
    arg8.view.read (Elt Ideal) (arg8.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k0_t1_loop.trips).2.1)
      = scalesOf (arg1.view.read (Elt Ideal) X_arg1) (arg2.view.read (Elt Ideal) X_arg2) :=
  Filled.read arg8.view G ((quantised 𝒱 c bd i arg1 harg1 arg2 harg2 arg3 harg3 arg4 harg4 arg5 harg5 arg6 harg6 arg7 harg7 arg8 harg8 arg9 harg9 arg10 harg10 arg11 harg11 arg12 harg12 k0_h1 X_arg1 X_arg2 _ le_rfl).2.1) (by rw [trips1_eq])

/-- After the quantise loop the buffer of the outer codes reads the outer codes. -/
theorem quantised_outer (𝒱 : Variants) (c : Dev nD) (bd : Option 𝒱.V) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (k0_h1 : k0_cond1 i = 1#1) (X_arg1 : BufTy.Contents (Elt Ideal) arg1.view.ty) (X_arg2 : BufTy.Contents (Elt Ideal) arg2.view.ty) (G : BufTy.Contents (Elt Ideal) arg9.view.ty) :
    arg9.view.read (Elt Ideal) (arg9.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k0_t1_loop.trips).2.2.1)
      = half outerCol (codesOf (arg1.view.read (Elt Ideal) X_arg1) (arg2.view.read (Elt Ideal) X_arg2)) :=
  Filled.read arg9.view G ((quantised 𝒱 c bd i arg1 harg1 arg2 harg2 arg3 harg3 arg4 harg4 arg5 harg5 arg6 harg6 arg7 harg7 arg8 harg8 arg9 harg9 arg10 harg10 arg11 harg11 arg12 harg12 k0_h1 X_arg1 X_arg2 _ le_rfl).2.2.1) (by rw [trips1_eq])

/-- After the quantise loop the buffer of the inner codes reads the inner codes. -/
theorem quantised_inner (𝒱 : Variants) (c : Dev nD) (bd : Option 𝒱.V) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (k0_h1 : k0_cond1 i = 1#1) (X_arg1 : BufTy.Contents (Elt Ideal) arg1.view.ty) (X_arg2 : BufTy.Contents (Elt Ideal) arg2.view.ty) (G : BufTy.Contents (Elt Ideal) arg10.view.ty) :
    arg10.view.read (Elt Ideal) (arg10.view.writes (Elt Ideal) G (pb_k0_t1 (F := Ideal) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k0_t1_loop.trips).2.2.2)
      = half innerCol (codesOf (arg1.view.read (Elt Ideal) X_arg1) (arg2.view.read (Elt Ideal) X_arg2)) :=
  Filled.read arg10.view G ((quantised 𝒱 c bd i arg1 harg1 arg2 harg2 arg3 harg3 arg4 harg4 arg5 harg5 arg6 harg6 arg7 harg7 arg8 harg8 arg9 harg9 arg10 harg10 arg11 harg11 arg12 harg12 k0_h1 X_arg1 X_arg2 _ le_rfl).2.2.2) (by rw [trips1_eq])

end Cert.Proof

end
-- ==== Proof.Run.Kit.lean ====
/- What the runs of the kernel body share: the body's one condition over the grid points, the staging buffers by name, and the
   block of results a point computes. -/
module

public import proofs.«01_k».proof.Proof.Gen.KernelIdeal.Frame
public import proofs.«01_k».proof.Proof.Lanes.Decode
public import proofs.«01_k».proof.Proof.Lanes.Quantise
public import Idealize.ShloMosaic.Lib.Pipeline.FrameBody
public import Idealize.ShloMosaic.Lib.Tactic
public import Idealize.ShloMosaic.Lib.WordCmp

@[expose] public section

set_option maxRecDepth 16384

noncomputable section

namespace Cert.Proof

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 1 % 36 := Pipeline.Grid.coords_val t 0 (by decide) rfl
    simp only [cond0_0, k0_cond1, e0]
    word_cmp
   : ∀ t : Fin grid0.N, cond0_0 (grid0.coords t) ↔ t.val % 36 = 0)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl

/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x3584 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x224 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x3584 .fp8e4m3 := Memref.whole cc0_scratch0
abbrev scM0_1 : Memref sig .tc .vmem S256x3584 .fp8e4m3 := Memref.whole cc0_scratch1
abbrev scM0_2 : Memref sig .tc .vmem S512x3584 .fp8e4m3 := Memref.whole cc0_scratch2
abbrev scM0_3 : Memref sig .tc .vmem S512x3584 .fp8e4m3 := Memref.whole cc0_scratch3

/-- The frame kit's invariant with the scratch operands as memrefs owned at some contents : what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The block of results a grid point computes: the outer codes against the outer plane of the decoded weights plus the inner codes
    against the inner plane, each row by its scale and each column by its weight scale. -/
def product (xa xb : S256x3584.Idx → EReal) (S : S256x128.Idx → EReal) (W : S512x3584.Idx → EReal) (I : S512x224.Idx → BitVec 32)
    (s : S1x512.Idx → EReal) : FVec Ideal S256x512 .bf16 :=
  k0_pay6 (F := Ideal) xa (outerOf (R := 512) W I) xb (innerOf (R := 512) W I) (fun y => S (ix2 (y 0) 0)) s

/-- A load of a whole buffer through the rectangle at the origin reads the buffer. -/
theorem readAt_whole {s : Shape} {e : EltTy} (v : View sig .tc .vmem s e) (off : Fin s.rank → ℕ) (inb : ∀ a, off a + s.size a ≤ s.size a)
    (X : BufTy.Contents (Elt Ideal) v.ty) :
    v.readAt (Elt Ideal) (Rect.unit (s := s) off s.size inb).toLoadRect X = v.read (Elt Ideal) X := by
  funext y
  rw [View.readAt_apply]
  refine congrArg (v.read (Elt Ideal) X) (funext fun a => Fin.ext ?_)
  show off a + 1 * (y a).val = (y a).val
  have := inb a
  omega

/-- A buffer stored whole through the rectangle at the origin reads what was stored. -/
theorem read_one_whole {s : Shape} {e : EltTy} (v : View sig .tc .vmem s e) (off : Fin s.rank → ℕ) (inb : ∀ a, off a + s.size a ≤ s.size a)
    (f : BufTy.Contents (Elt Ideal) v.ty) (G : s.Idx → Elt Ideal e) :
    v.read (Elt Ideal) (v.writes (Elt Ideal) f [⟨Rect.unit (s := s) off s.size inb, G⟩]) = G := by
  have he : ∀ x : s.Idx, (Rect.unit (s := s) off s.size inb).emb x = x := fun x => funext fun a => Fin.ext (by
    show off a + 1 * (x a).val = (x a).val
    have := inb a
    omega)
  funext y
  refine View.read_writes_apply_of_pieces v f G _ (fun p hp x => ?_) y ⟨_, List.mem_singleton_self _, ?_⟩
  · obtain rfl := List.mem_singleton.mp hp
    exact congrArg G (he x).symm
  · have h := LoadRect.idx_mem (Rect.unit (s := s) off s.size inb).toLoadRect y
    exact (he y) ▸ h

/-- A load of the first column of the scales reads it. -/
theorem readAt_column (v : View sig .tc .vmem S256x128 .f32) (inb : ∀ a, (![0, 0] : Fin 2 → ℕ) a + S256x1.size a ≤ S256x128.size a)
    (X : BufTy.Contents (Elt Ideal) v.ty) :
    v.readAt (Elt Ideal) (Rect.unit (s := S256x128) ![0, 0] S256x1.size inb).toLoadRect X
      = fun y => v.read (Elt Ideal) X (ix2 (y 0) 0) := by
  funext y
  rw [View.readAt_apply]
  refine congrArg (v.read (Elt Ideal) X) (funext fun a => Fin.ext ?_)
  match a with
  | ⟨0, _⟩ => show 0 + 1 * (y 0).val = (y 0).val
              omega
  | ⟨1, _⟩ => have h : (y 1).val < 1 := (y 1).isLt
              show 0 + 1 * (y 1).val = 0
              omega

end Cert.Proof

end
-- ==== Proof.Run.First.lean ====
/- The kernel body at the first grid point. -/
module

public import proofs.«01_k».proof.Proof.Run.Kit

@[expose] public section

set_option maxRecDepth 16384

noncomputable section

namespace Cert.Proof

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- At the first grid point the body leaves the block of results, the codes and the scales in its three output buffers, and the outer and
    the inner codes in its first two scratch buffers. -/
theorem kernelRun0_A (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (hc0 : cond0_0 i)
    (x0 : Vec Ideal S256x7168 .bf16) (x1 : Vec Ideal S1x7168 .f32) (x2 : Vec Ideal S512x3584 .fp8e4m3) (x3 : Vec Ideal S512x224 .i32) (x4 : Vec Ideal S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (product (half outerCol (codesOf x0 x1)) (half innerCol (codesOf x0 x1)) (scalesOf x0 x1) x2 x3 x4) ∗ owns (c : Thread nD τ) arg7 fullShare (codesOf x0 x1) ∗ owns (c : Thread nD τ) arg8 fullShare (scalesOf x0 x1) ∗ owns (c : Thread nD τ) arg9 fullShare (half outerCol (codesOf x0 x1)) ∗ owns (c : Thread nD τ) arg10 fullShare (half innerCol (codesOf x0 x1)) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_sparse24_rmsnorm_linear i arg1 harg1 arg2 harg2 arg3 harg3 arg4 harg4 arg5 harg5 arg6 harg6 arg7 harg7 arg8 harg8 arg9 harg9 arg10 harg10 arg11 harg11 arg12 harg12) K := by
    intro E K
    simp only [cc0_sparse24_rmsnorm_linear_eq_skeleton]; unfold cc0_sparse24_rmsnorm_linear_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (read_one_whole _ _ _ _ _).trans ?_
      unfold product
      have ev4 : kernelRun0_A.sl.v4 c i arg1 harg1 arg2 harg2 arg3 harg3 arg4 harg4 arg5 harg5 arg6 harg6 arg7 harg7 arg8 harg8 arg9 harg9 arg10 harg10 arg11 harg11 arg12 harg12 hc0 x0 x1 fs0 = _ := (readAt_whole _ _ _ _).trans ((quantised_outer Variants.none c none i arg1 harg1 arg2 harg2 arg3 harg3 arg4 harg4 arg5 harg5 arg6 harg6 arg7 harg7 arg8 harg8 arg9 harg9 arg10 harg10 arg11 harg11 arg12 harg12 hc0 (harg1.unread x0) (harg2.unread x1) _).trans (by rw [hf0, hf1]))
      have ev5 : kernelRun0_A.sl.v5 c i arg1 harg1 arg2 harg2 arg3 harg3 arg4 harg4 arg5 harg5 arg6 harg6 arg7 harg7 arg8 harg8 arg9 harg9 arg10 harg10 arg11 harg11 arg12 harg12 x2 x3 fs2 = _ := (readAt_whole _ _ _ _).trans ((decoded_outer Variants.none c none i arg1 harg1 arg2 harg2 arg3 harg3 arg4 harg4 arg5 harg5 arg6 harg6 arg7 harg7 arg8 harg8 arg9 harg9 arg10 harg10 arg11 harg11 arg12 harg12 (harg3.unread x2) (harg4.unread x3) _).trans (by rw [hf2, hf3]))
      have ev7 : kernelRun0_A.sl.v7 c i arg1 harg1 arg2 harg2 arg3 harg3 arg4 harg4 arg5 harg5 arg6 harg6 arg7 harg7 arg8 harg8 arg9 harg9 arg10 harg10 arg11 harg11 arg12 harg12 hc0 x0 x1 fs1 = _ := (readAt_whole _ _ _ _).trans ((quantised_inner Variants.none c none i arg1 harg1 arg2 harg2 arg3 harg3 arg4 harg4 arg5 harg5 arg6 harg6 arg7 harg7 arg8 harg8 arg9 harg9 arg10 harg10 arg11 harg11 arg12 harg12 hc0 (harg1.unread x0) (harg2.unread x1) _).trans (by rw [hf0, hf1]))
      have ev8 : kernelRun0_A.sl.v8 c i arg1 harg1 arg2 harg2 arg3 harg3 arg4 harg4 arg5 harg5 arg6 harg6 arg7 harg7 arg8 harg8 arg9 harg9 arg10 harg10 arg11 harg11 arg12 harg12 x2 x3 fs3 = _ := (readAt_whole _ _ _ _).trans ((decoded_inner Variants.none c none i arg1 harg1 arg2 harg2 arg3 harg3 arg4 harg4 arg5 harg5 arg6 harg6 arg7 harg7 arg8 harg8 arg9 harg9 arg10 harg10 arg11 harg11 arg12 harg12 (harg3.unread x2) (harg4.unread x3) _).trans (by rw [hf2, hf3]))
      have ev11 : kernelRun0_A.sl.v11 c i arg1 harg1 arg2 harg2 arg3 harg3 arg4 harg4 arg5 harg5 arg6 harg6 arg7 harg7 arg8 harg8 arg9 harg9 arg10 harg10 arg11 harg11 arg12 harg12 hc0 x0 x1 f7 = _ := (readAt_column _ _ _).trans (congrArg (fun (S : S256x128.Idx → EReal) => fun y : S256x1.Idx => S (ix2 (y 0) 0)) ((quantised_scales Variants.none c none i arg1 harg1 arg2 harg2 arg3 harg3 arg4 harg4 arg5 harg5 arg6 harg6 arg7 harg7 arg8 harg8 arg9 harg9 arg10 harg10 arg11 harg11 arg12 harg12 hc0 (harg1.unread x0) (harg2.unread x1) _).trans (by rw [hf0, hf1])))
      have ev15 := (readAt_whole arg5.view ![0, 0] inb_S1x512_S1x512_0_0 (harg5.unread x4)).trans hf4
      exact congr (congr (congr (congr (congr (congrArg (k0_pay6 (F := Ideal)) ev4) ev5) ev7) ev8) ev11) ev15
    isplitl [H6]
    · iexists _; isplitr; swap; · iexact H6
      ipureintro; exact (quantised_codes Variants.none c none i arg1 harg1 arg2 harg2 arg3 harg3 arg4 harg4 arg5 harg5 arg6 harg6 arg7 harg7 arg8 harg8 arg9 harg9 arg10 harg10 arg11 harg11 arg12 harg12 hc0 (harg1.unread x0) (harg2.unread x1) _).trans (by rw [hf0, hf1])
    isplitl [H7]
    · iexists _; isplitr; swap; · iexact H7
      ipureintro; exact (quantised_scales Variants.none c none i arg1 harg1 arg2 harg2 arg3 harg3 arg4 harg4 arg5 harg5 arg6 harg6 arg7 harg7 arg8 harg8 arg9 harg9 arg10 harg10 arg11 harg11 arg12 harg12 hc0 (harg1.unread x0) (harg2.unread x1) _).trans (by rw [hf0, hf1])
    isplitl [HS0]
    · iexists _; isplitr; swap; · iexact HS0
      ipureintro; exact (quantised_outer Variants.none c none i arg1 harg1 arg2 harg2 arg3 harg3 arg4 harg4 arg5 harg5 arg6 harg6 arg7 harg7 arg8 harg8 arg9 harg9 arg10 harg10 arg11 harg11 arg12 harg12 hc0 (harg1.unread x0) (harg2.unread x1) _).trans (by rw [hf0, hf1])
    isplitl [HS1]
    · iexists _; isplitr; swap; · iexact HS1
      ipureintro; exact (quantised_inner Variants.none c none i arg1 harg1 arg2 harg2 arg3 harg3 arg4 harg4 arg5 harg5 arg6 harg6 arg7 harg7 arg8 harg8 arg9 harg9 arg10 harg10 arg11 harg11 arg12 harg12 hc0 (harg1.unread x0) (harg2.unread x1) _).trans (by rw [hf0, hf1])
    isplitl [HS2]
    · iexists _, _; isplitr; swap; · iexact HS2
      ipureintro; rfl
    iexists _, _; isplitr; swap; · iexact HS3
    ipureintro; rfl

end Cert.Proof

end
-- ==== Proof.Run.Later.lean ====
/- The kernel body at a later grid point. -/
module

public import proofs.«01_k».proof.Proof.Run.Kit

@[expose] public section

set_option maxRecDepth 16384

noncomputable section

namespace Cert.Proof

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 1000000 in
/-- At a later grid point the body leaves the block of results in its first output buffer, computed from the codes and the scales it
    finds, which it leaves as they were. -/
theorem kernelRun0_B (c : Dev nD) (i : grid0.Coords) (arg1 : Memref sig .tc .vmem S256x7168 .bf16) (harg1 : arg1.IsWhole) (arg2 : Memref sig .tc .vmem S1x7168 .f32) (harg2 : arg2.IsWhole) (arg3 : Memref sig .tc .vmem S512x3584 .fp8e4m3) (harg3 : arg3.IsWhole) (arg4 : Memref sig .tc .vmem S512x224 .i32) (harg4 : arg4.IsWhole) (arg5 : Memref sig .tc .vmem S1x512 .f32) (harg5 : arg5.IsWhole) (arg6 : Memref sig .tc .vmem S256x512 .bf16) (harg6 : arg6.IsWhole) (arg7 : Memref sig .tc .vmem S256x7168 .fp8e4m3) (harg7 : arg7.IsWhole) (arg8 : Memref sig .tc .vmem S256x128 .f32) (harg8 : arg8.IsWhole) (arg9 : Memref sig .tc .vmem S256x3584 .fp8e4m3) (harg9 : arg9.IsWhole) (arg10 : Memref sig .tc .vmem S256x3584 .fp8e4m3) (harg10 : arg10.IsWhole) (arg11 : Memref sig .tc .vmem S512x3584 .fp8e4m3) (harg11 : arg11.IsWhole) (arg12 : Memref sig .tc .vmem S512x3584 .fp8e4m3) (harg12 : arg12.IsWhole) (hc0 : ¬cond0_0 i)
    (x0 : Vec Ideal S256x7168 .bf16) (x1 : Vec Ideal S1x7168 .f32) (x2 : Vec Ideal S512x3584 .fp8e4m3) (x3 : Vec Ideal S512x224 .i32) (x4 : Vec Ideal S1x512 .f32) (x6 : Vec Ideal S256x7168 .fp8e4m3) (x7 : Vec Ideal S256x128 .f32) (xa xb : Vec Ideal S256x3584 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare x7 ∗ owns (c : Thread nD τ) arg9 fullShare xa ∗ owns (c : Thread nD τ) arg10 fullShare xb ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (product xa xb x7 x2 x3 x4) ∗ owns (c : Thread nD τ) arg7 fullShare x6 ∗ owns (c : Thread nD τ) arg8 fullShare x7 ∗ owns (c : Thread nD τ) arg9 fullShare xa ∗ owns (c : Thread nD τ) arg10 fullShare xb ∗ (∃ d, owns (c : Thread nD τ) arg11 fullShare d) ∗ (∃ d, owns (c : Thread nD τ) arg12 fullShare d)) -∗ K ⟨⟩))
          ⊢ wp frame (wpE (defs₀ (F := Ideal)) Variants.none c none) E (cc0_sparse24_rmsnorm_linear i arg1 harg1 arg2 harg2 arg3 harg3 arg4 harg4 arg5 harg5 arg6 harg6 arg7 harg7 arg8 harg8 arg9 harg9 arg10 harg10 arg11 harg11 arg12 harg12) K := by
    intro E K
    simp only [cc0_sparse24_rmsnorm_linear_eq_skeleton]; unfold cc0_sparse24_rmsnorm_linear_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (read_one_whole _ _ _ _ _).trans ?_
      unfold product
      have ev4 := (readAt_whole arg9.view ![0, 0] inb_S256x3584_S256x3584_0_0 fs0).trans hfs0
      have ev7 := (readAt_whole arg10.view ![0, 0] inb_S256x3584_S256x3584_0_0 fs1).trans hfs1
      have ev5 : kernelRun0_B.sl.v5 c i arg1 harg1 arg2 harg2 arg3 harg3 arg4 harg4 arg5 harg5 arg6 harg6 arg7 harg7 arg8 harg8 arg9 harg9 arg10 harg10 arg11 harg11 arg12 harg12 x2 x3 fs2 = _ := (readAt_whole _ _ _ _).trans ((decoded_outer Variants.none c none i arg1 harg1 arg2 harg2 arg3 harg3 arg4 harg4 arg5 harg5 arg6 harg6 arg7 harg7 arg8 harg8 arg9 harg9 arg10 harg10 arg11 harg11 arg12 harg12 (harg3.unread x2) (harg4.unread x3) _).trans (by rw [hf2, hf3]))
      have ev8 : kernelRun0_B.sl.v8 c i arg1 harg1 arg2 harg2 arg3 harg3 arg4 harg4 arg5 harg5 arg6 harg6 arg7 harg7 arg8 harg8 arg9 harg9 arg10 harg10 arg11 harg11 arg12 harg12 x2 x3 fs3 = _ := (readAt_whole _ _ _ _).trans ((decoded_inner Variants.none c none i arg1 harg1 arg2 harg2 arg3 harg3 arg4 harg4 arg5 harg5 arg6 harg6 arg7 harg7 arg8 harg8 arg9 harg9 arg10 harg10 arg11 harg11 arg12 harg12 (harg3.unread x2) (harg4.unread x3) _).trans (by rw [hf2, hf3]))
      have ev11 := (readAt_column arg8.view inb_S256x128_S256x1_0_0 f7).trans (congrArg (fun (S : S256x128.Idx → EReal) => fun y : S256x1.Idx => S (ix2 (y 0) 0)) hf7)
      have ev15 := (readAt_whole arg5.view ![0, 0] inb_S1x512_S1x512_0_0 (harg5.unread x4)).trans hf4
      exact congr (congr (congr (congr (congr (congrArg (k0_pay6 (F := Ideal)) ev4) ev5) ev7) ev8) ev11) ev15
    isplitl [H6]
    · iexists _; isplitr; swap; · iexact H6
      ipureintro; exact hf6
    isplitl [H7]
    · iexists _; isplitr; swap; · iexact H7
      ipureintro; exact hf7
    isplitl [HS0]
    · iexists _; isplitr; swap; · iexact HS0
      ipureintro; exact hfs0
    isplitl [HS1]
    · iexists _; isplitr; swap; · iexact HS1
      ipureintro; exact hfs1
    isplitl [HS2]
    · iexists _, _; isplitr; swap; · iexact HS2
      ipureintro; rfl
    iexists _, _; isplitr; swap; · iexact HS3
    ipureintro; rfl

end Cert.Proof

end
-- ==== Proof.Run.Body.lean ====
/- The kernel run point by point: what the grid carries between points, the body at a point, and the run of the whole kernel. -/
module

public import proofs.«01_k».proof.Proof.Run.First
public import proofs.«01_k».proof.Proof.Run.Later
public import Idealize.ShloMosaic.Lib.Claim

@[expose] public section

set_option maxRecDepth 16384

noncomputable section

namespace Cert.Proof

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem points : cfg0.N = 36 := N_0

/-- The first grid point. -/
def t0 : Fin cfg0.N := ⟨0, by rw [points]; decide⟩

/-- The codes: those of the activations and the norm weights as the first point finds them. -/
def theCodes (c : Dev nD) : S256x7168.Idx → EReal := codesOf (iblk m c 0 t0) (iblk m c 1 t0)

/-- The scales. -/
def theScales (c : Dev nD) : S256x128.Idx → EReal := scalesOf (iblk m c 0 t0) (iblk m c 1 t0)

/-- The block of results of point `t`. -/
def theBlock (c : Dev nD) (t : Fin cfg0.N) : FVec Ideal S256x512 .bf16 :=
  product (half outerCol (theCodes m c)) (half innerCol (theCodes m c)) (theScales m c) (iblk m c 2 t) (iblk m c 3 t) (iblk m c 4 t)

/-- What the grid carries from the first point on: the two scratch buffers of codes at the codes, the two of decoded weights at anything. -/
def carried (c : Dev nD) : sProp 𝕄 :=
  iprop(iprop(owns (c : Thread nD τ) scM0_0 fullShare (half outerCol (theCodes m c)) ∗ owns (c : Thread nD τ) scM0_1 fullShare (half innerCol (theCodes m c)) ∗ (∃ d, owns (c : Thread nD τ) scM0_2 fullShare d) ∗ (∃ d, owns (c : Thread nD τ) scM0_3 fullShare d)) ∗ (∃ r, prngReg c r))

/-- The proof data of the pipeline: the arrays as the region finds them; each input's buffer left at its block, the three outputs' at the
    block of results, the codes and the scales; between points the scratch as carried. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => theBlock m c t
    | ⟨6, _⟩ => theCodes m c
    | ⟨7, _⟩ => theScales m c
  Φ t := if t.val = 0 then Pipeline.ΦA spec0 c else carried m c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = theBlock m c t := by dsimp only [dats]
theorem after0_6 (c : Dev nD) (t : Fin cfg0.N) : (dats m 0 c).after 6 t = theCodes m c := by dsimp only [dats]
theorem after0_7 (c : Dev nD) (t : Fin cfg0.N) : (dats m 0 c).after 7 t = theScales m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem Phi_zero (c : Dev nD) (t : Fin (cfg0.N + 1)) (h : t.val = 0) : (dats m 0 c).Φ t = Pipeline.ΦA spec0 c := if_pos h

theorem Phi_pos (c : Dev nD) (t : Fin (cfg0.N + 1)) (h : t.val ≠ 0) : (dats m 0 c).Φ t = carried m c := if_neg h

/-- Window 6 is idle from the second point on. -/
theorem idle0_6 (t : Fin cfg0.N) : cfg0.idle 6 (cfg0.grid.coords t) = true ↔ t.val % 36 ≠ 0 := by
  have h : cfg0.idle 6 (cfg0.grid.coords t) = !(k0_cond1 (grid0.coords t) == 1#1) := rfl
  rw [h, Bool.not_eq_true', beq_eq_false_iff_ne]
  exact not_congr (hcond0_0 t)

/-- From the second point on window 6's buffer holds what the first point left. -/
theorem before0_6 (c : Dev nD) (n : ℕ) : ∀ (t : Fin cfg0.N), t.val = n + 1 → ∀ d, (dats m 0 c).before 6 t d = theCodes m c := by
  induction n with
  | zero =>
    intro t ht d
    have hN : t.val < 36 := lt_of_lt_of_eq t.isLt points
    rw [(dats m 0 c).before_of_pos 6 t (by omega) ((cfg0.win 6).fetch_out rfl t),
      if_neg (fun h => by have := (flush0_6 _).mp h; simp only at this; omega)]
    have hi : cfg0.idle 6 (cfg0.grid.coords ⟨t.val - 1, Nat.lt_of_le_of_lt (Nat.sub_le _ _) t.isLt⟩) = false :=
      eq_false_of_ne_true fun h => (idle0_6 _).mp h (by show (t.val - 1) % 36 = 0; omega)
    unfold Dat.left
    rw [hi]
    exact ((cfg0.win 6).fill_cut _ _).trans (after0_6 m c _)
  | succ n ih =>
    intro t ht d
    have hN : t.val < 36 := lt_of_lt_of_eq t.isLt points
    rw [(dats m 0 c).before_of_pos 6 t (by omega) ((cfg0.win 6).fetch_out rfl t),
      if_neg (fun h => by have := (flush0_6 _).mp h; simp only at this; omega)]
    have hi : cfg0.idle 6 (cfg0.grid.coords ⟨t.val - 1, Nat.lt_of_le_of_lt (Nat.sub_le _ _) t.isLt⟩) = true :=
      (idle0_6 _).mpr (by show (t.val - 1) % 36 ≠ 0; omega)
    unfold Dat.left
    rw [hi]
    exact ih _ (by show t.val - 1 = n + 1; omega) d

/-- Window 6's buffer at what the first point left in it is what the body owes there at any point. -/
theorem leaves0_6 (c : Dev nD) (t : Fin cfg0.N) (d₀ : (cfg0.win 6).block.Idx → Elt Ideal (cfg0.win 6).elt) :
    (owns (c : Thread nD τ) (ms0_6 t) fullShare (theCodes m c) : sProp 𝕄) ⊢ (dats m 0 c).leavesExact 6 t := by
  have hN : t.val < 36 := lt_of_lt_of_eq t.isLt points
  by_cases h0 : t.val % 36 = 0
  · have hi : cfg0.idle 6 (cfg0.grid.coords t) = false := eq_false_of_ne_true fun h => (idle0_6 _).mp h h0
    unfold Dat.leavesExact
    rw [hi, after0_6]
  · have hi : cfg0.idle 6 (cfg0.grid.coords t) = true := (idle0_6 _).mpr h0
    cases hf : (cfg0.win 6).flush t with
    | false =>
      rw [(dats m 0 c).leavesExact_idle 6 t hi hf]
      iintro H
      iexists d₀
      rw [before0_6 m c (t.val - 1) t (by omega) d₀]
      iexact H
    | true =>
      unfold Dat.leavesExact
      rw [hi, hf, after0_6]

/-- Window 7 is idle from the second point on. -/
theorem idle0_7 (t : Fin cfg0.N) : cfg0.idle 7 (cfg0.grid.coords t) = true ↔ t.val % 36 ≠ 0 := by
  have h : cfg0.idle 7 (cfg0.grid.coords t) = !(k0_cond1 (grid0.coords t) == 1#1) := rfl
  rw [h, Bool.not_eq_true', beq_eq_false_iff_ne]
  exact not_congr (hcond0_0 t)

/-- From the second point on window 7's buffer holds what the first point left. -/
theorem before0_7 (c : Dev nD) (n : ℕ) : ∀ (t : Fin cfg0.N), t.val = n + 1 → ∀ d, (dats m 0 c).before 7 t d = theScales m c := by
  induction n with
  | zero =>
    intro t ht d
    have hN : t.val < 36 := lt_of_lt_of_eq t.isLt points
    rw [(dats m 0 c).before_of_pos 7 t (by omega) ((cfg0.win 7).fetch_out rfl t),
      if_neg (fun h => by have := (flush0_7 _).mp h; simp only at this; omega)]
    have hi : cfg0.idle 7 (cfg0.grid.coords ⟨t.val - 1, Nat.lt_of_le_of_lt (Nat.sub_le _ _) t.isLt⟩) = false :=
      eq_false_of_ne_true fun h => (idle0_7 _).mp h (by show (t.val - 1) % 36 = 0; omega)
    unfold Dat.left
    rw [hi]
    exact ((cfg0.win 7).fill_cut _ _).trans (after0_7 m c _)
  | succ n ih =>
    intro t ht d
    have hN : t.val < 36 := lt_of_lt_of_eq t.isLt points
    rw [(dats m 0 c).before_of_pos 7 t (by omega) ((cfg0.win 7).fetch_out rfl t),
      if_neg (fun h => by have := (flush0_7 _).mp h; simp only at this; omega)]
    have hi : cfg0.idle 7 (cfg0.grid.coords ⟨t.val - 1, Nat.lt_of_le_of_lt (Nat.sub_le _ _) t.isLt⟩) = true :=
      (idle0_7 _).mpr (by show (t.val - 1) % 36 ≠ 0; omega)
    unfold Dat.left
    rw [hi]
    exact ih _ (by show t.val - 1 = n + 1; omega) d

/-- Window 7's buffer at what the first point left in it is what the body owes there at any point. -/
theorem leaves0_7 (c : Dev nD) (t : Fin cfg0.N) (d₀ : (cfg0.win 7).block.Idx → Elt Ideal (cfg0.win 7).elt) :
    (owns (c : Thread nD τ) (ms0_7 t) fullShare (theScales m c) : sProp 𝕄) ⊢ (dats m 0 c).leavesExact 7 t := by
  have hN : t.val < 36 := lt_of_lt_of_eq t.isLt points
  by_cases h0 : t.val % 36 = 0
  · have hi : cfg0.idle 7 (cfg0.grid.coords t) = false := eq_false_of_ne_true fun h => (idle0_7 _).mp h h0
    unfold Dat.leavesExact
    rw [hi, after0_7]
  · have hi : cfg0.idle 7 (cfg0.grid.coords t) = true := (idle0_7 _).mpr h0
    cases hf : (cfg0.win 7).flush t with
    | false =>
      rw [(dats m 0 c).leavesExact_idle 7 t hi hf]
      iintro H
      iexists d₀
      rw [before0_7 m c (t.val - 1) t (by omega) d₀]
      iexact H
    | true =>
      unfold Dat.leavesExact
      rw [hi, hf, after0_7]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem liveAt0_5 : ∀ t : Fin cfg0.N, cfg0.idle 5 (grid0.coords t) = false := fun _ => rfl

set_option maxHeartbeats 2400000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    Phi_pos m c t.succ (by show t.val + 1 ≠ 0; omega)]
  have hN : t.val < 36 := lt_of_lt_of_eq t.isLt points
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 36 = 0
  · rw [Phi_zero m c t.castSucc (by show t.val = 0; omega), PhiA0_eq]
    obtain rfl : t = t0 := Fin.ext (by show t.val = 0; omega)
    unfold carried
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t0) _ _ _ _ _ _ _ _ _ _ _ _ _ _ _ _ _ _ _ _ _ _ _ _ ((hcond0_0 t0).mpr h0) (iblk m c 0 t0) (iblk m c 1 t0) (iblk m c 2 t0) (iblk m c 3 t0) (iblk m c 4 t0)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6 m c t0 d6); iexact H6
    iapply (leaves0_7 m c t0 d7); iexact H7
  · rw [Phi_pos m c t.castSucc (by show t.val ≠ 0; omega)]
    simp only [before0_6 m c (t.val - 1) t (by omega), before0_7 m c (t.val - 1) t (by omega)]
    unfold carried
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (theCodes m c) (theScales m c) (half outerCol (theCodes m c)) (half innerCol (theCodes m c))) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves0_6 m c t d6); iexact H6
    iapply (leaves0_7 m c t d7); iexact H7

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem carried_forget (c : Dev nD) : carried m c ⊢ (Pipeline.ΦA spec0 c : sProp 𝕄) := by
  rw [PhiA0_eq]
  unfold carried
  iintro ⟨⟨HS0, HS1, HS2, HS3⟩, Hg⟩
  isplitl [HS0 HS1 HS2 HS3]
  · isplitl [HS0]; · iexists _; iexact HS0
    isplitl [HS1]; · iexists _; iexact HS1
    isplitl [HS2]; · iexact HS2
    iexact HS3
  iexact Hg

set_option backward.isDefEq.respectTransparency.types false in
/-- The run of the kernel: every execution ends with each array at what the write-backs made of it and every counter at zero. -/
theorem run_main_quiescent : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [Phi_zero m c 0 rfl])
    (hout := fun c => by
      rw [Phi_pos m c (Fin.last cfg0.N) (by show cfg0.N ≠ 0; rw [points]; decide)]
      exact carried_forget m c)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end as they were, every counter at zero. -/
theorem frame_kernelIdeal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof

end
-- ==== Proof.Run.Arrays.lean ====
/- The result arrays after the run, index by index, from the arrays the region finds. -/
module

public import proofs.«01_k».proof.Proof.Run.Body
public import Idealize.ShloMosaic.Lib.Pipeline.Value

@[expose] public section

set_option maxRecDepth 16384

noncomputable section

namespace Cert.Proof

open Idealize.ShloMosaic Idealize.ShloMosaic.TcCoe
open Cert.KernelIdeal Cert.KernelIdeal.Gen
open Idealize.SL.Sem
open Idealize.ShloMosaic.Pipeline (Dat Cfg Window)

variable (m : (ℓ : Loc nD τ sig) → Buf (Elt Ideal) ℓ) (ρ : Dev nD → PrngReg)

/-- The block each window names at each point. -/
theorem index_facts : ∀ t : Fin grid0.N,
    (win0_0.index t 0 = 0 ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = t.val) ∧ (win0_5.index t 0 = 0 ∧ win0_5.index t 1 = t.val)
    ∧ (win0_6.index t 0 = 0 ∧ win0_6.index t 1 = 0) ∧ (win0_7.index t 0 = 0 ∧ win0_7.index t 1 = 0) := by decide +kernel

theorem point_lt (t : Fin cfg0.N) : t.val < 36 := points ▸ t.isLt

/-- The activations' window holds the whole array. -/
theorem block0 (c : Dev nD) (t : Fin cfg0.N) : (iblk m c 0 t : S256x7168.Idx → EReal) = V m c main_v0 := by
  funext y
  have e := (index_facts t).1
  unfold iblk
  show V m c main_v0 _ = _
  refine congrArg (V m c main_v0) (funext fun a => Fin.ext ?_)
  match a with
  | ⟨0, _⟩ => show win0_0.index t 0 * 256 + 1 * (y 0).val = (y 0).val; rw [e.1]; omega
  | ⟨1, _⟩ => show win0_0.index t 1 * 7168 + 1 * (y 1).val = (y 1).val; rw [e.2]; omega

theorem block1 (c : Dev nD) (t : Fin cfg0.N) : (iblk m c 1 t : S1x7168.Idx → EReal) = V m c main_v1 := by
  funext y
  have e := (index_facts t).2.1
  unfold iblk
  show V m c main_v1 _ = _
  refine congrArg (V m c main_v1) (funext fun a => Fin.ext ?_)
  match a with
  | ⟨0, _⟩ => show win0_1.index t 0 * 1 + 1 * (y 0).val = (y 0).val; rw [e.1]; omega
  | ⟨1, _⟩ => show win0_1.index t 1 * 7168 + 1 * (y 1).val = (y 1).val; rw [e.2]; omega

theorem block2 (c : Dev nD) (t : Fin cfg0.N) (r : Fin 512) (q : Fin 3584) :
    (iblk m c 2 t (ix2 r q) : EReal) = V m c main_arg2 (ix2 ⟨512 * t.val + r.val, by have := point_lt t; omega⟩ q) := by
  have e := (index_facts t).2.2.1
  unfold iblk
  show V m c main_arg2 _ = _
  refine congrArg (V m c main_arg2) (funext fun a => Fin.ext ?_)
  match a with
  | ⟨0, _⟩ => show win0_2.index t 0 * 512 + 1 * r.val = 512 * t.val + r.val; rw [e.1]; omega
  | ⟨1, _⟩ => show win0_2.index t 1 * 3584 + 1 * q.val = q.val; rw [e.2]; omega

theorem block3 (c : Dev nD) (t : Fin cfg0.N) (r : Fin 512) (q : Fin 224) :
    (iblk m c 3 t (ix2 r q) : BitVec 32) = V m c main_arg3 (ix2 ⟨512 * t.val + r.val, by have := point_lt t; omega⟩ q) := by
  have e := (index_facts t).2.2.2.1
  unfold iblk
  show V m c main_arg3 _ = _
  refine congrArg (V m c main_arg3) (funext fun a => Fin.ext ?_)
  match a with
  | ⟨0, _⟩ => show win0_3.index t 0 * 512 + 1 * r.val = 512 * t.val + r.val; rw [e.1]; omega
  | ⟨1, _⟩ => show win0_3.index t 1 * 224 + 1 * q.val = q.val; rw [e.2]; omega

theorem block4 (c : Dev nD) (t : Fin cfg0.N) (q : Fin 512) :
    (iblk m c 4 t (ix2 0 q) : EReal) = V m c main_v2 (ix2 0 ⟨512 * t.val + q.val, by have := point_lt t; omega⟩) := by
  have e := (index_facts t).2.2.2.2.1
  unfold iblk
  show V m c main_v2 _ = _
  refine congrArg (V m c main_v2) (funext fun a => Fin.ext ?_)
  match a with
  | ⟨0, _⟩ => show win0_4.index t 0 * 1 + 1 * 0 = 0; rw [e.1]
  | ⟨1, _⟩ => show win0_4.index t 1 * 512 + 1 * q.val = 512 * t.val + q.val; rw [e.2]; omega

/-- The array of codes, from the arrays the region finds. -/
def codesArray (c : Dev nD) : S256x7168.Idx → EReal := codesOf (V m c main_v0) (V m c main_v1)

/-- The array of scales. -/
def scalesArray (c : Dev nD) : S256x128.Idx → EReal := scalesOf (V m c main_v0) (V m c main_v1)

/-- The product of the outer halves plus that of the inner halves, times the row's scale and the column's. -/
def yArray (c : Dev nD) (y : S256x18432.Idx) : EReal :=
  (∑ x : Fin 3584, half outerCol (codesArray m c) (ix2 (y 0) x) * outerOf (R := 18432) (V m c main_arg2) (V m c main_arg3) (ix2 (y 1) x)
    + ∑ x : Fin 3584, half innerCol (codesArray m c) (ix2 (y 0) x) * innerOf (R := 18432) (V m c main_arg2) (V m c main_arg3) (ix2 (y 1) x))
    * scalesArray m c (ix2 (y 0) 0) * V m c main_v2 (ix2 0 (y 1))

theorem theCodes_eq (c : Dev nD) : theCodes m c = codesArray m c := congrArg₂ codesOf (block0 m c t0) (block1 m c t0)

theorem theScales_eq (c : Dev nD) : theScales m c = scalesArray m c := congrArg₂ scalesOf (block0 m c t0) (block1 m c t0)

theorem bitAt_block (c : Dev nD) (t : Fin cfg0.N) (r : Fin 512) (q : Fin 3584) (b : ℕ) :
    bitAt (R := 512) (iblk m c 3 t) r q b = bitAt (R := 18432) (V m c main_arg3) ⟨512 * t.val + r.val, by have := point_lt t; omega⟩ q b := by
  unfold bitAt
  rw [block3]

theorem outer_block (c : Dev nD) (t : Fin cfg0.N) (r : Fin 512) (q : Fin 3584) :
    outerOf (R := 512) (iblk m c 2 t) (iblk m c 3 t) (ix2 r q)
      = outerOf (R := 18432) (V m c main_arg2) (V m c main_arg3) (ix2 ⟨512 * t.val + r.val, by have := point_lt t; omega⟩ q) := by
  show (if bitAt (R := 512) (iblk m c 3 t) r q 0 = false ∧ bitAt (R := 512) (iblk m c 3 t) r q 1 = false then (iblk m c 2 t (ix2 r q) : EReal) else (0 : EReal)) = _
  rw [bitAt_block, bitAt_block, block2]
  rfl

theorem inner_block (c : Dev nD) (t : Fin cfg0.N) (r : Fin 512) (q : Fin 3584) :
    innerOf (R := 512) (iblk m c 2 t) (iblk m c 3 t) (ix2 r q)
      = innerOf (R := 18432) (V m c main_arg2) (V m c main_arg3) (ix2 ⟨512 * t.val + r.val, by have := point_lt t; omega⟩ q) := by
  show (if bitAt (R := 512) (iblk m c 3 t) r q 0 = true then (iblk m c 2 t (ix2 r q) : EReal)
    else if bitAt (R := 512) (iblk m c 3 t) r ⟨swap q.val, swap_lt q.isLt (by decide)⟩ 1 = true
      then (iblk m c 2 t (ix2 r ⟨swap q.val, swap_lt q.isLt (by decide)⟩) : EReal) else (0 : EReal)) = _
  rw [bitAt_block, bitAt_block, block2, block2]
  rfl

/-- The block of results of a point is the point's 512 columns of the array of results. -/
theorem theBlock_apply (c : Dev nD) (t : Fin cfg0.N) (r : Fin 256) (q : Fin 512) :
    (theBlock m c t (ix2 r q) : EReal) = yArray m c (ix2 r ⟨512 * t.val + q.val, by have := point_lt t; omega⟩) := by
  unfold theBlock product
  pointwise [k0_pay6]
  unfold yArray
  simp only [outer_block, inner_block, block4, theCodes_eq, theScales_eq]
  rfl

theorem theBlock_at (c : Dev nD) (t : Fin cfg0.N) (y : S256x512.Idx) :
    (theBlock m c t y : EReal) = yArray m c (ix2 (y 0) ⟨512 * t.val + (y 1).val, by have := point_lt t; have : (y 1).val < 512 := (y 1).isLt; omega⟩) := by
  have e : y = ix2 (y 0) (y 1) := funext fun a => by fin_cases a <;> rfl
  exact (congrArg (theBlock m c t) e).trans (theBlock_apply m c t (y 0) (y 1))

/-- What a point writes back of the results is its block of the array of results. -/
theorem flushed5_eq (c : Dev nD) (t : Fin cfg0.N) :
    (dats m 0 c).flushed 5 t = (win0_5.blk t).view.read (Elt Ideal) (yArray m c) := by
  show (cfg0.win 5).cut (grid0.coords t) ((dats m 0 c).after 5 t) = _
  rw [after0_5]
  funext y
  have e := (index_facts t).2.2.2.2.2.1
  refine (theBlock_at m c t _).trans ?_
  show yArray m c _ = yArray m c _
  refine congrArg (yArray m c) (funext fun a => Fin.ext ?_)
  match a with
  | ⟨0, _⟩ => show (y 0).val = win0_5.index t 0 * 256 + 1 * (y 0).val; rw [e.1]; omega
  | ⟨1, _⟩ => show 512 * t.val + (y 1).val = win0_5.index t 1 * 512 + 1 * (y 1).val; rw [e.2]; omega

theorem flushed6_eq (c : Dev nD) (t : Fin cfg0.N) :
    (dats m 0 c).flushed 6 t = (win0_6.blk t).view.read (Elt Ideal) (codesArray m c) := by
  show (cfg0.win 6).cut (grid0.coords t) ((dats m 0 c).after 6 t) = _
  rw [after0_6]
  funext y
  have e := (index_facts t).2.2.2.2.2.2.1
  show theCodes m c _ = codesArray m c _
  rw [theCodes_eq]
  refine congrArg (codesArray m c) (funext fun a => Fin.ext ?_)
  match a with
  | ⟨0, _⟩ => show (y 0).val = win0_6.index t 0 * 256 + 1 * (y 0).val; rw [e.1]; omega
  | ⟨1, _⟩ => show (y 1).val = win0_6.index t 1 * 7168 + 1 * (y 1).val; rw [e.2]; omega

theorem flushed7_eq (c : Dev nD) (t : Fin cfg0.N) :
    (dats m 0 c).flushed 7 t = (win0_7.blk t).view.read (Elt Ideal) (scalesArray m c) := by
  show (cfg0.win 7).cut (grid0.coords t) ((dats m 0 c).after 7 t) = _
  rw [after0_7]
  funext y
  have e := (index_facts t).2.2.2.2.2.2.2
  show theScales m c _ = scalesArray m c _
  rw [theScales_eq]
  refine congrArg (scalesArray m c) (funext fun a => Fin.ext ?_)
  match a with
  | ⟨0, _⟩ => show (y 0).val = win0_7.index t 0 * 256 + 1 * (y 0).val; rw [e.1]; omega
  | ⟨1, _⟩ => show (y 1).val = win0_7.index t 1 * 128 + 1 * (y 1).val; rw [e.2]; omega

/-- The points that write each result back, and how many columns or rows a block has there. -/
theorem flush_facts : ∀ t : Fin grid0.N, (win0_5.flush t = true ∧ win0_5.xsize (grid0.coords t) 0 = 256 ∧ win0_5.xsize (grid0.coords t) 1 = 512)
    ∧ (t.val = 35 → win0_6.flush t = true ∧ win0_7.flush t = true)
    ∧ (win0_6.xsize (grid0.coords t) 0 = 256 ∧ win0_6.xsize (grid0.coords t) 1 = 7168)
    ∧ (win0_7.xsize (grid0.coords t) 0 = 256 ∧ win0_7.xsize (grid0.coords t) 1 = 128) := by decide +kernel

theorem cover5 (i : S256x18432.Idx) : ∃ t : Fin cfg0.N, (cfg0.win 5).flush t = true ∧ i ∈ ((cfg0.win 5).blk t).view.set := by
  have h0 : (i 0).val < 256 := (i 0).isLt
  have h1 : (i 1).val < 18432 := (i 1).isLt
  obtain ⟨t, ht⟩ : ∃ t : Fin cfg0.N, t.val = (i 1).val / 512 := ⟨⟨(i 1).val / 512, by rw [points]; omega⟩, rfl⟩
  refine ⟨t, (flush_facts t).1.1, ?_⟩
  show i ∈ ((View.whole main_v3_0).slice (win0_5.rect t)).set
  rw [View.set_slice_whole, Rect.mem_set_unit]
  intro a
  have e := (index_facts t).2.2.2.2.2.1
  have f := (flush_facts t).1.2
  match a with
  | ⟨0, _⟩ =>
    show win0_5.index t 0 * 256 ≤ (i 0).val ∧ (i 0).val < win0_5.index t 0 * 256 + win0_5.xsize (grid0.coords t) 0
    rw [e.1, f.1]; omega
  | ⟨1, _⟩ =>
    show win0_5.index t 1 * 512 ≤ (i 1).val ∧ (i 1).val < win0_5.index t 1 * 512 + win0_5.xsize (grid0.coords t) 1
    rw [e.2, f.2]; omega

/-- The last grid point. -/
def t35 : Fin cfg0.N := ⟨35, by rw [points]; decide⟩

theorem cover6 (i : S256x7168.Idx) : ∃ t : Fin cfg0.N, (cfg0.win 6).flush t = true ∧ i ∈ ((cfg0.win 6).blk t).view.set := by
  have h0 : (i 0).val < 256 := (i 0).isLt
  have h1 : (i 1).val < 7168 := (i 1).isLt
  refine ⟨t35, ((flush_facts t35).2.1 rfl).1, ?_⟩
  show i ∈ ((View.whole main_v3_1).slice (win0_6.rect t35)).set
  rw [View.set_slice_whole, Rect.mem_set_unit]
  intro a
  have e := (index_facts t35).2.2.2.2.2.2.1
  have f := (flush_facts t35).2.2.1
  match a with
  | ⟨0, _⟩ =>
    show win0_6.index _ 0 * 256 ≤ (i 0).val ∧ (i 0).val < win0_6.index _ 0 * 256 + win0_6.xsize (grid0.coords _) 0
    rw [e.1, f.1]; omega
  | ⟨1, _⟩ =>
    show win0_6.index _ 1 * 7168 ≤ (i 1).val ∧ (i 1).val < win0_6.index _ 1 * 7168 + win0_6.xsize (grid0.coords _) 1
    rw [e.2, f.2]; omega

theorem cover7 (i : S256x128.Idx) : ∃ t : Fin cfg0.N, (cfg0.win 7).flush t = true ∧ i ∈ ((cfg0.win 7).blk t).view.set := by
  have h0 : (i 0).val < 256 := (i 0).isLt
  have h1 : (i 1).val < 128 := (i 1).isLt
  refine ⟨t35, ((flush_facts t35).2.1 rfl).2, ?_⟩
  show i ∈ ((View.whole main_v3_2).slice (win0_7.rect t35)).set
  rw [View.set_slice_whole, Rect.mem_set_unit]
  intro a
  have e := (index_facts t35).2.2.2.2.2.2.2
  have f := (flush_facts t35).2.2.2
  match a with
  | ⟨0, _⟩ =>
    show win0_7.index _ 0 * 256 ≤ (i 0).val ∧ (i 0).val < win0_7.index _ 0 * 256 + win0_7.xsize (grid0.coords _) 0
    rw [e.1, f.1]; omega
  | ⟨1, _⟩ =>
    show win0_7.index _ 1 * 128 ≤ (i 1).val ∧ (i 1).val < win0_7.index _ 1 * 128 + win0_7.xsize (grid0.coords _) 1
    rw [e.2, f.2]; omega

/-- The run of the kernel, read: the three result arrays as functions of the arrays the region finds, the arguments unchanged. -/
theorem run_arrays : θ_run defs (onTc (τ := τ) (main (F := Ideal))) ⟨m, fun _ => 0, ρ⟩ fun r => ∀ c : Dev nD,
      r.2.mem ((c : Thread nD τ).loc main_v3_0) = yArray m c
      ∧ r.2.mem ((c : Thread nD τ).loc main_v3_1) = codesArray m c
      ∧ r.2.mem ((c : Thread nD τ).loc main_v3_2) = scalesArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans ((dats m 0 c).arrAt_eq_of_cover 5 (yArray m c) (fun t _ => flushed5_eq m c t) cover5),
      ((h c).1 6).trans ((dats m 0 c).arrAt_eq_of_cover 6 (codesArray m c) (fun t _ => flushed6_eq m c t) cover6),
      ((h c).1 7).trans ((dats m 0 c).arrAt_eq_of_cover 7 (scalesArray m c) (fun t _ => flushed7_eq m c t) cover7),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.Proof

end
-- ==== Proof.Lanes.Dense.lean ====
/- A row of the sparse operand spelt out: of every group of four columns the two positions its index word names hold the two stored values,
   the other two hold zero. -/
module

public import proofs.«01_k».proof.Proof.Lanes.Rows

@[expose] public section

set_option maxRecDepth 16384

noncomputable section

namespace Cert.Proof

open Idealize.ShloMosaic

/-- The position of a group's first value, as a word. -/
def firstPlace (w : BitVec 32) (j : ℕ) : BitVec 32 := IntOp.andi (IntOp.shrsi ArithUnit.vector w (IntOp.muli (4#32) (BitVec.ofNat 32 j))) 3#32

/-- The position of a group's second value, as a word. -/
def secondPlace (w : BitVec 32) (j : ℕ) : BitVec 32 :=
  IntOp.andi (IntOp.shrsi ArithUnit.vector w (IntOp.addi (IntOp.muli (4#32) (BitVec.ofNat 32 j)) 2#32)) 3#32

/-- Entry `x` of row `r` of the dense operand. -/
def denseAt {R : ℕ} (V : (⟨2, ![R, 3584]⟩ : Shape).Idx → EReal) (W : (⟨2, ![R, 224]⟩ : Shape).Idx → BitVec 32) (r : Fin R) (x : Fin 7168) : EReal :=
  Scalar.select (IntOp.cmpi CmpIPredicate.eq (firstPlace (W (ix2 r ⟨x.val / 32, by omega⟩)) (x.val / 4 % 8)) (BitVec.ofNat 32 (x.val % 4)))
    (V (ix2 r ⟨x.val / 32 * 16 + x.val / 4 % 8 * 2, by omega⟩))
    (Scalar.select (IntOp.cmpi CmpIPredicate.eq (secondPlace (W (ix2 r ⟨x.val / 32, by omega⟩)) (x.val / 4 % 8)) (BitVec.ofNat 32 (x.val % 4)))
      (V (ix2 r ⟨x.val / 32 * 16 + x.val / 4 % 8 * 2 + 1, by omega⟩)) (Ideal.ofBits FTy.fp8e4m3 0#8))

/-- Two bits as a word. -/
def pairWord (a b : Bool) : BitVec 32 := BitVec.ofNat 32 (a.toNat + 2 * b.toNat)

theorem pairWord_bits : ∀ (a b : Bool) (i : Fin 32), (pairWord a b).getLsbD i.val = (if i.val = 0 then a else if i.val = 1 then b else false) := by
  decide +kernel

theorem three_bits : ∀ i : Fin 32, (3#32).getLsbD i.val = decide (i.val < 2) := by decide +kernel

/-- Two neighbouring bits of a word, shifted down and masked. -/
theorem place_bits (w : BitVec 32) (n : ℕ) (hn : n + 1 < 32) : w.sshiftRight n &&& 3#32 = pairWord (w.getLsbD n) (w.getLsbD (n + 1)) := by
  apply BitVec.eq_of_getLsbD_eq
  intro i hi
  rw [BitVec.getLsbD_and, BitVec.getLsbD_sshiftRight, pairWord_bits _ _ ⟨i, hi⟩, three_bits ⟨i, hi⟩]
  dsimp only
  rcases Nat.lt_or_ge i 2 with h | h
  · have : i = 0 ∨ i = 1 := by omega
    rcases this with rfl | rfl
    · simp [show n < 32 by omega]
    · simp [show n + 1 < 32 by omega]
  · simp [show ¬ i < 2 by omega, show i ≠ 0 by omega, show i ≠ 1 by omega]

theorem firstPlace_eq (w : BitVec 32) (j : Fin 8) : firstPlace w j.val = pairWord (w.getLsbD (4 * j.val)) (w.getLsbD (4 * j.val + 1)) := by
  have hm : ∀ j : Fin 8, (IntOp.muli (4#32) (BitVec.ofNat 32 j.val)).toNat = 4 * j.val := by decide +kernel
  rw [← place_bits w (4 * j.val) (by omega)]
  unfold firstPlace IntOp.shrsi
  rw [if_pos (by rw [hm]; omega)]
  show BitVec.sshiftRight w _ &&& 3#32 = _
  rw [hm]

theorem secondPlace_eq (w : BitVec 32) (j : Fin 8) : secondPlace w j.val = pairWord (w.getLsbD (4 * j.val + 2)) (w.getLsbD (4 * j.val + 3)) := by
  have hm : ∀ j : Fin 8, (IntOp.addi (IntOp.muli (4#32) (BitVec.ofNat 32 j.val)) 2#32).toNat = 4 * j.val + 2 := by decide +kernel
  rw [show 4 * j.val + 3 = (4 * j.val + 2) + 1 by omega, ← place_bits w (4 * j.val + 2) (by omega)]
  unfold secondPlace IntOp.shrsi
  rw [if_pos (by rw [hm]; omega)]
  show BitVec.sshiftRight w _ &&& 3#32 = _
  rw [hm]

theorem flags_eq (w : BitVec 32) (j : Fin 8) : flag w (4 * j.val) = w.getLsbD (4 * j.val) ∧ flag w (4 * j.val + 1) = w.getLsbD (4 * j.val + 1)
    ∧ flag w (4 * j.val + 2) = !w.getLsbD (4 * j.val + 2) ∧ flag w (4 * j.val + 3) = !w.getLsbD (4 * j.val + 3) := by
  have h : ∀ j : Fin 8, (3435973836#32).getLsbD (4 * j.val) = false ∧ (3435973836#32).getLsbD (4 * j.val + 1) = false
    ∧ (3435973836#32).getLsbD (4 * j.val + 2) = true ∧ (3435973836#32).getLsbD (4 * j.val + 3) = true := by decide +kernel
  obtain ⟨h0, h1, h2, h3⟩ := h j
  unfold flag
  refine ⟨?_, ?_, ?_, ?_⟩ <;> rw [BitVec.getLsbD_xor] <;> simp only [h0, h1, h2, h3, Bool.xor_false, Bool.xor_true]

/-- One group of four columns: the two stored values at their two positions make up the outer pair of columns and the inner pair. -/
theorem group_sum (w : BitVec 32) (j : Fin 8) (h : IntOp.cmpi CmpIPredicate.slt (firstPlace w j.val) (secondPlace w j.val) = 1#1)
    (d : ℕ → EReal) (a0 a1 a2 a3 v0 v1 : EReal)
    (hd : d = fun k => Scalar.select (IntOp.cmpi CmpIPredicate.eq (firstPlace w j.val) (BitVec.ofNat 32 k)) v0
      (Scalar.select (IntOp.cmpi CmpIPredicate.eq (secondPlace w j.val) (BitVec.ofNat 32 k)) v1 0)) :
    a0 * d 0 + a1 * d 1 + a2 * d 2 + a3 * d 3
      = (a0 * (if flag w (4 * j.val) = false ∧ flag w (4 * j.val + 1) = false then v0 else 0)
          + a3 * (if flag w (4 * j.val + 2) = false ∧ flag w (4 * j.val + 3) = false then v1 else 0))
        + (a1 * (if flag w (4 * j.val) = true then v0 else if flag w (4 * j.val + 3) = true then v1 else 0)
          + a2 * (if flag w (4 * j.val + 2) = true then v1 else if flag w (4 * j.val + 1) = true then v0 else 0)) := by
  obtain ⟨f0, f1, f2, f3⟩ := flags_eq w j
  rw [f0, f1, f2, f3]
  rw [firstPlace_eq, secondPlace_eq] at h hd
  generalize w.getLsbD (4 * j.val) = b0 at *
  generalize w.getLsbD (4 * j.val + 1) = b1 at *
  generalize w.getLsbD (4 * j.val + 2) = b2 at *
  generalize w.getLsbD (4 * j.val + 3) = b3 at *
  have hsel (a b : BitVec 32) (x y : EReal) : Scalar.select (IntOp.cmpi CmpIPredicate.eq a b) x y = if a = b then x else y := by
    unfold Scalar.select IntOp.cmpi
    by_cases hab : a = b
    · subst hab; simp
    · rw [if_neg hab, show (a == b) = false from by simpa using hab]; rfl
  simp only [hsel] at hd
  subst hd
  cases b0 <;> cases b1 <;> cases b2 <;> cases b3 <;>
    first
    | exact absurd h (by decide)
    | (simp [pairWord]; done)
    | (simp [pairWord]; abel)

/-- A sum over the columns, four by four. -/
theorem sum_by_fours (f : ℕ → EReal) : ∑ x : Fin 7168, f x.val
    = ∑ g : Fin 1792, (f (4 * g.val) + f (4 * g.val + 1) + f (4 * g.val + 2) + f (4 * g.val + 3)) := by
  rw [← (finProdFinEquiv (m := 1792) (n := 4)).sum_comp (fun x : Fin 7168 => f x.val), Fintype.sum_prod_type]
  refine Finset.sum_congr rfl fun g _ => ?_
  rw [Fin.sum_univ_four]
  simp only [finProdFinEquiv_apply_val]
  simp [add_comm]

/-- A sum over the stored columns, two by two. -/
theorem sum_by_twos (f : ℕ → EReal) : ∑ x : Fin 3584, f x.val = ∑ g : Fin 1792, (f (2 * g.val) + f (2 * g.val + 1)) := by
  rw [← (finProdFinEquiv (m := 1792) (n := 2)).sum_comp (fun x : Fin 3584 => f x.val), Fintype.sum_prod_type]
  refine Finset.sum_congr rfl fun g _ => ?_
  rw [Fin.sum_univ_two]
  simp only [finProdFinEquiv_apply_val]
  simp [add_comm]

/-- A row of codes against a row of the dense operand is the outer half of the codes against the outer half of the decoded values plus the
    inner half against the inner half, when in every group the first position comes before the second. -/
theorem dense_sum {R : ℕ} (V : (⟨2, ![R, 3584]⟩ : Shape).Idx → EReal) (W : (⟨2, ![R, 224]⟩ : Shape).Idx → BitVec 32) (r : Fin R)
    (hp : ∀ (q : Fin 224) (j : Fin 8), IntOp.cmpi CmpIPredicate.slt (firstPlace (W (ix2 r q)) j.val) (secondPlace (W (ix2 r q)) j.val) = 1#1)
    (A : Fin 7168 → EReal) :
    ∑ x, A x * denseAt V W r x
      = ∑ c : Fin 3584, A ⟨outerCol c.val % 7168, Nat.mod_lt _ (by decide)⟩ * outerOf V W (ix2 r c)
        + ∑ c : Fin 3584, A ⟨innerCol c.val % 7168, Nat.mod_lt _ (by decide)⟩ * innerOf V W (ix2 r c) := by
  have hmod {n k : ℕ} (hk : 0 < k) : n % k < k := Nat.mod_lt _ hk
  have e1 : ∑ x, A x * denseAt V W r x
      = ∑ x : Fin 7168, (fun n : ℕ => A ⟨n % 7168, hmod (by decide)⟩ * denseAt V W r ⟨n % 7168, hmod (by decide)⟩) x.val := by
    refine Finset.sum_congr rfl fun x _ => ?_
    have : (⟨x.val % 7168, hmod (by decide)⟩ : Fin 7168) = x := Fin.ext (Nat.mod_eq_of_lt x.isLt)
    dsimp only
    rw [this]
  have e2 : ∑ c : Fin 3584, A ⟨outerCol c.val % 7168, Nat.mod_lt _ (by decide)⟩ * outerOf V W (ix2 r c)
      = ∑ c : Fin 3584, (fun n : ℕ => A ⟨outerCol n % 7168, hmod (by decide)⟩ * outerOf V W (ix2 r ⟨n % 3584, hmod (by decide)⟩)) c.val := by
    refine Finset.sum_congr rfl fun x _ => ?_
    have : (⟨x.val % 3584, hmod (by decide)⟩ : Fin 3584) = x := Fin.ext (Nat.mod_eq_of_lt x.isLt)
    dsimp only
    rw [this]
  have e3 : ∑ c : Fin 3584, A ⟨innerCol c.val % 7168, Nat.mod_lt _ (by decide)⟩ * innerOf V W (ix2 r c)
      = ∑ c : Fin 3584, (fun n : ℕ => A ⟨innerCol n % 7168, hmod (by decide)⟩ * innerOf V W (ix2 r ⟨n % 3584, hmod (by decide)⟩)) c.val := by
    refine Finset.sum_congr rfl fun x _ => ?_
    have : (⟨x.val % 3584, hmod (by decide)⟩ : Fin 3584) = x := Fin.ext (Nat.mod_eq_of_lt x.isLt)
    dsimp only
    rw [this]
  rw [e1.trans (sum_by_fours (fun n : ℕ => A ⟨n % 7168, hmod (by decide)⟩ * denseAt V W r ⟨n % 7168, hmod (by decide)⟩)),
    e2.trans (sum_by_twos (fun n : ℕ => A ⟨outerCol n % 7168, hmod (by decide)⟩ * outerOf V W (ix2 r ⟨n % 3584, hmod (by decide)⟩))),
    e3.trans (sum_by_twos (fun n : ℕ => A ⟨innerCol n % 7168, hmod (by decide)⟩ * innerOf V W (ix2 r ⟨n % 3584, hmod (by decide)⟩))),
    ← Finset.sum_add_distrib]
  refine Finset.sum_congr rfl fun g _ => ?_
  have hg := g.isLt
  have key := group_sum (W (ix2 r ⟨g.val / 8, by omega⟩)) ⟨g.val % 8, by omega⟩ (hp _ _) _
    (A ⟨4 * g.val, by omega⟩) (A ⟨4 * g.val + 1, by omega⟩) (A ⟨4 * g.val + 2, by omega⟩) (A ⟨4 * g.val + 3, by omega⟩)
    (V (ix2 r ⟨2 * g.val, by omega⟩)) (V (ix2 r ⟨2 * g.val + 1, by omega⟩)) rfl
  have hA (n k : ℕ) (hk : k < 7168) (h : n % 7168 = k) : A ⟨n % 7168, hmod (by decide)⟩ = A ⟨k, hk⟩ := congrArg A (Fin.ext h)
  have hz : Ideal.ofBits FTy.fp8e4m3 0#8 = 0 := by simp [Ideal.ofBits, Ideal.e4m3fn]
  have hD (k : ℕ) (hk : k < 4) : denseAt V W r ⟨(4 * g.val + k) % 7168, hmod (by decide)⟩
      = Scalar.select (IntOp.cmpi CmpIPredicate.eq (firstPlace (W (ix2 r ⟨g.val / 8, by omega⟩)) (g.val % 8)) (BitVec.ofNat 32 k))
          (V (ix2 r ⟨2 * g.val, by omega⟩))
          (Scalar.select (IntOp.cmpi CmpIPredicate.eq (secondPlace (W (ix2 r ⟨g.val / 8, by omega⟩)) (g.val % 8)) (BitVec.ofNat 32 k))
            (V (ix2 r ⟨2 * g.val + 1, by omega⟩)) 0) := by
    unfold denseAt
    rw [hz]
    have h1 : (4 * g.val + k) % 7168 = 4 * g.val + k := Nat.mod_eq_of_lt (by omega)
    have h2 : (4 * g.val + k) / 32 = g.val / 8 := by omega
    have h3 : (4 * g.val + k) / 4 % 8 = g.val % 8 := by omega
    have h4 : (4 * g.val + k) % 4 = k := by omega
    have h5 : g.val / 8 * 16 + g.val % 8 * 2 = 2 * g.val := by omega
    simp only [h1, h2, h3, h4, h5]
  have hw (b n : ℕ) (hn : n < 2) : bitAt W r ⟨(2 * g.val + n) % 3584, hmod (by decide)⟩ b
      = flag (W (ix2 r ⟨g.val / 8, by omega⟩)) (4 * (g.val % 8) + 2 * n + b) := by
    unfold bitAt
    have h1 : (2 * g.val + n) % 3584 = 2 * g.val + n := Nat.mod_eq_of_lt (by omega)
    have h2 : (2 * g.val + n) / 16 = g.val / 8 := by omega
    have h3 : 2 * ((2 * g.val + n) % 16) = 4 * (g.val % 8) + 2 * n := by omega
    simp only [h1, h2, h3]
  have hc (n k : ℕ) (hk : k < 3584) (h : n % 3584 = k) : (⟨n % 3584, hmod (by decide)⟩ : Fin 3584) = ⟨k, hk⟩ := Fin.ext h
  have hs0 : (⟨swap ((2 * g.val) % 3584), swap_lt (hmod (by decide)) (by decide)⟩ : Fin 3584) = ⟨(2 * g.val + 1) % 3584, hmod (by decide)⟩ := by
    apply Fin.ext; simp only [swap]; split <;> omega
  have hs1 : (⟨swap ((2 * g.val + 1) % 3584), swap_lt (hmod (by decide)) (by decide)⟩ : Fin 3584) = ⟨(2 * g.val + 0) % 3584, hmod (by decide)⟩ := by
    apply Fin.ext; simp only [swap]; split <;> omega
  have o0 : outerOf V W (ix2 r ⟨(2 * g.val) % 3584, hmod (by decide)⟩)
      = if flag (W (ix2 r ⟨g.val / 8, by omega⟩)) (4 * (g.val % 8)) = false ∧ flag (W (ix2 r ⟨g.val / 8, by omega⟩)) (4 * (g.val % 8) + 1) = false
        then V (ix2 r ⟨2 * g.val, by omega⟩) else 0 := by
    have a := hw 0 0 (by decide)
    have b := hw 1 0 (by decide)
    show (if bitAt W r ⟨(2 * g.val) % 3584, _⟩ 0 = false ∧ bitAt W r ⟨(2 * g.val) % 3584, _⟩ 1 = false then V (ix2 r ⟨(2 * g.val) % 3584, _⟩) else 0) = _
    simp only [Nat.add_zero, Nat.mul_zero] at a b
    rw [a, b, hc (2 * g.val) (2 * g.val) (by omega) (by omega)]
  have o1 : outerOf V W (ix2 r ⟨(2 * g.val + 1) % 3584, hmod (by decide)⟩)
      = if flag (W (ix2 r ⟨g.val / 8, by omega⟩)) (4 * (g.val % 8) + 2) = false ∧ flag (W (ix2 r ⟨g.val / 8, by omega⟩)) (4 * (g.val % 8) + 3) = false
        then V (ix2 r ⟨2 * g.val + 1, by omega⟩) else 0 := by
    have a := hw 0 1 (by decide)
    have b := hw 1 1 (by decide)
    show (if bitAt W r ⟨(2 * g.val + 1) % 3584, _⟩ 0 = false ∧ bitAt W r ⟨(2 * g.val + 1) % 3584, _⟩ 1 = false
      then V (ix2 r ⟨(2 * g.val + 1) % 3584, _⟩) else 0) = _
    rw [a, b, hc (2 * g.val + 1) (2 * g.val + 1) (by omega) (by omega)]
  have i0 : innerOf V W (ix2 r ⟨(2 * g.val) % 3584, hmod (by decide)⟩)
      = if flag (W (ix2 r ⟨g.val / 8, by omega⟩)) (4 * (g.val % 8)) = true then V (ix2 r ⟨2 * g.val, by omega⟩)
        else if flag (W (ix2 r ⟨g.val / 8, by omega⟩)) (4 * (g.val % 8) + 3) = true then V (ix2 r ⟨2 * g.val + 1, by omega⟩) else 0 := by
    have a := hw 0 0 (by decide)
    have b := hw 1 1 (by decide)
    show (if bitAt W r ⟨(2 * g.val) % 3584, _⟩ 0 = true then V (ix2 r ⟨(2 * g.val) % 3584, _⟩)
      else if bitAt W r ⟨swap ((2 * g.val) % 3584), _⟩ 1 = true then V (ix2 r ⟨swap ((2 * g.val) % 3584), _⟩) else 0) = _
    simp only [Nat.add_zero, Nat.mul_zero] at a
    rw [hs0, a, b, hc (2 * g.val) (2 * g.val) (by omega) (by omega), hc (2 * g.val + 1) (2 * g.val + 1) (by omega) (by omega)]
  have i1 : innerOf V W (ix2 r ⟨(2 * g.val + 1) % 3584, hmod (by decide)⟩)
      = if flag (W (ix2 r ⟨g.val / 8, by omega⟩)) (4 * (g.val % 8) + 2) = true then V (ix2 r ⟨2 * g.val + 1, by omega⟩)
        else if flag (W (ix2 r ⟨g.val / 8, by omega⟩)) (4 * (g.val % 8) + 1) = true then V (ix2 r ⟨2 * g.val, by omega⟩) else 0 := by
    have a := hw 0 1 (by decide)
    have b := hw 1 0 (by decide)
    show (if bitAt W r ⟨(2 * g.val + 1) % 3584, _⟩ 0 = true then V (ix2 r ⟨(2 * g.val + 1) % 3584, _⟩)
      else if bitAt W r ⟨swap ((2 * g.val + 1) % 3584), _⟩ 1 = true then V (ix2 r ⟨swap ((2 * g.val + 1) % 3584), _⟩) else 0) = _
    rw [hs1, a, b, hc (2 * g.val + 0) (2 * g.val) (by omega) (by omega), hc (2 * g.val + 1) (2 * g.val + 1) (by omega) (by omega)]
  have d0 := hD 0 (by decide)
  simp only [Nat.add_zero] at d0
  have p0 : outerCol (2 * g.val) % 7168 = 4 * g.val := by unfold outerCol; omega
  have p1 : outerCol (2 * g.val + 1) % 7168 = 4 * g.val + 3 := by unfold outerCol; omega
  have q0 : innerCol (2 * g.val) % 7168 = 4 * g.val + 1 := by unfold innerCol; omega
  have q1 : innerCol (2 * g.val + 1) % 7168 = 4 * g.val + 2 := by unfold innerCol; omega
  dsimp only at key ⊢
  rw [d0, hD 1 (by decide), hD 2 (by decide), hD 3 (by decide), o0, o1, i0, i1,
    hA _ _ (by omega) p0, hA _ _ (by omega) p1, hA _ _ (by omega) q0, hA _ _ (by omega) q1,
    hA (4 * g.val) (4 * g.val) (by omega) (by omega), hA (4 * g.val + 1) (4 * g.val + 1) (by omega) (by omega),
    hA (4 * g.val + 2) (4 * g.val + 2) (by omega) (by omega), hA (4 * g.val + 3) (4 * g.val + 3) (by omega) (by omega)]
  exact key

end Cert.Proof

end
-- ==== Proof.Ref.Product.lean ====
/- The reference's product at an index: codes against the dense operand, times the two scales. -/
module

public import proofs.«01_k».proof.Proof.Gen.ReferenceIdeal.Skeleton
public import proofs.«01_k».proof.Proof.Lanes.Dense

@[expose] public section

set_option maxRecDepth 16384

noncomputable section

namespace Cert.Proof.Ref

open Idealize.ShloMosaic Cert.ReferenceIdeal Cert.ReferenceIdeal.Facts₀ Cert.ReferenceIdeal.Facts
open Cert.ReferenceIdeal.Gen (k0_pay6)

/-- The product of the codes with the dense operand, times the row's scale and the column's. -/
theorem y_apply (A : FVec Ideal S256x7168 .fp8e4m3) (s : FVec Ideal S256x1 .f32) (I : Vec Ideal S18432x224 .i32) (V : Vec Ideal S18432x3584 .fp8e4m3)
    (W : Vec Ideal S1x18432 .f32) (r : Fin 256) (c : Fin 18432) :
    (k0_pay6 (F := Ideal) A s I V W (ix2 r c) : EReal)
      = (∑ x, (A (ix2 r x) : EReal) * denseAt (R := 18432) V I c x) * s (ix2 r 0) * W (ix2 0 c) := by
  pointwise [k0_pay6]
  rfl

end Cert.Proof.Ref

end
-- ==== Proof.Ref.Arrays.lean ====
/- The reference's result arrays after the run, from the arrays its region finds. -/
module

public import proofs.«01_k».proof.Proof.Gen.ReferenceIdeal.Frame
public import Idealize.ShloMosaic.Lib.Pipeline.Value
public import proofs.«01_k».proof.Proof.Ref.Product

@[expose] public section

set_option maxRecDepth 16384

noncomputable section

namespace Cert.Proof.Ref

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The one point's blocks are whole arrays. -/
theorem index_facts : ∀ t : Fin grid0.N,
    (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) := by decide +kernel

theorem size_facts : ∀ t : Fin grid0.N,
    (win0_5.xsize (grid0.coords t) 0 = 256 ∧ win0_5.xsize (grid0.coords t) 1 = 18432)
    ∧ (win0_6.xsize (grid0.coords t) 0 = 256 ∧ win0_6.xsize (grid0.coords t) 1 = 7168)
    ∧ (win0_7.xsize (grid0.coords t) 0 = 256 ∧ win0_7.xsize (grid0.coords t) 1 = 128) := by decide +kernel

theorem block0 (c : Dev nD) (t : Fin cfg0.N) : (iblk m c 0 t : S256x7168.Idx → EReal) = V m c main_v0 := by
  funext y
  have e := (index_facts t).1
  unfold iblk
  show V m c main_v0 _ = _
  refine congrArg (V m c main_v0) (funext fun a => Fin.ext ?_)
  match a with
  | ⟨0, _⟩ => show win0_0.index t 0 * 256 + 1 * (y 0).val = (y 0).val; rw [e.1]; omega
  | ⟨1, _⟩ => show win0_0.index t 1 * 7168 + 1 * (y 1).val = (y 1).val; rw [e.2]; omega

theorem block1 (c : Dev nD) (t : Fin cfg0.N) : (iblk m c 1 t : S1x7168.Idx → EReal) = V m c main_v1 := by
  funext y
  have e := (index_facts t).2.1
  unfold iblk
  show V m c main_v1 _ = _
  refine congrArg (V m c main_v1) (funext fun a => Fin.ext ?_)
  match a with
  | ⟨0, _⟩ => show win0_1.index t 0 * 1 + 1 * (y 0).val = (y 0).val; rw [e.1]; omega
  | ⟨1, _⟩ => show win0_1.index t 1 * 7168 + 1 * (y 1).val = (y 1).val; rw [e.2]; omega

theorem block2 (c : Dev nD) (t : Fin cfg0.N) : (iblk m c 2 t : S18432x3584.Idx → EReal) = V m c main_arg2 := by
  funext y
  have e := (index_facts t).2.2.1
  unfold iblk
  show V m c main_arg2 _ = _
  refine congrArg (V m c main_arg2) (funext fun a => Fin.ext ?_)
  match a with
  | ⟨0, _⟩ => show win0_2.index t 0 * 18432 + 1 * (y 0).val = (y 0).val; rw [e.1]; omega
  | ⟨1, _⟩ => show win0_2.index t 1 * 3584 + 1 * (y 1).val = (y 1).val; rw [e.2]; omega

theorem block3 (c : Dev nD) (t : Fin cfg0.N) : (iblk m c 3 t : S18432x224.Idx → BitVec 32) = V m c main_arg3 := by
  funext y
  have e := (index_facts t).2.2.2.1
  unfold iblk
  show V m c main_arg3 _ = _
  refine congrArg (V m c main_arg3) (funext fun a => Fin.ext ?_)
  match a with
  | ⟨0, _⟩ => show win0_3.index t 0 * 18432 + 1 * (y 0).val = (y 0).val; rw [e.1]; omega
  | ⟨1, _⟩ => show win0_3.index t 1 * 224 + 1 * (y 1).val = (y 1).val; rw [e.2]; omega

theorem block4 (c : Dev nD) (t : Fin cfg0.N) : (iblk m c 4 t : S1x18432.Idx → EReal) = V m c main_v2 := by
  funext y
  have e := (index_facts t).2.2.2.2.1
  unfold iblk
  show V m c main_v2 _ = _
  refine congrArg (V m c main_v2) (funext fun a => Fin.ext ?_)
  match a with
  | ⟨0, _⟩ => show win0_4.index t 0 * 1 + 1 * (y 0).val = (y 0).val; rw [e.1]; omega
  | ⟨1, _⟩ => show win0_4.index t 1 * 18432 + 1 * (y 1).val = (y 1).val; rw [e.2]; omega

/-- The reference's codes. -/
def codesArray (c : Dev nD) : Vec Ideal S256x7168 .fp8e4m3 := k0_pay4 (F := Ideal) (V m c main_v0) (V m c main_v1)

/-- The reference's scales, one a row. -/
def scaleColumn (c : Dev nD) : Vec Ideal S256x1 .f32 := k0_pay5 (F := Ideal) (V m c main_v0) (V m c main_v1)

/-- The reference's scales, a row of lanes each. -/
def scalesArray (c : Dev nD) : Vec Ideal S256x128 .f32 := k0_pay1 (F := Ideal) (scaleColumn m c)

/-- The reference's results. -/
def yArray (c : Dev nD) : Vec Ideal S256x18432 .bf16 :=
  k0_pay6 (F := Ideal) (codesArray m c) (scaleColumn m c) (V m c main_arg3) (V m c main_arg2) (V m c main_v2)

theorem out5_eq (c : Dev nD) (t : Fin cfg0.N) :
    out0_5 (iblk m c 0 t) (iblk m c 1 t) (iblk m c 2 t) (iblk m c 3 t) (iblk m c 4 t) = yArray m c := by
  have e : out0_5 (F := Ideal) (iblk m c 0 t) (iblk m c 1 t) (iblk m c 2 t) (iblk m c 3 t) (iblk m c 4 t)
      = out0_5 (V m c main_v0) (V m c main_v1) (V m c main_arg2) (V m c main_arg3) (V m c main_v2) := by
    have e0 := block0 m c t
    have e1 := block1 m c t
    have e2 := block2 m c t
    have e3 := block3 m c t
    have e4 := block4 m c t
    exact congr (congr (congr (congr (congrArg out0_5 e0) e1) e2) e3) e4
  rw [e]
  unfold out0_5 k0_pay7 k0_pay8
  rw [View.canon_unit_zero hz, View.ld_unit_zero hz, View.ld_unit_zero hz, View.ld_unit_zero hz, View.ld_unit_zero hz, View.ld_unit_zero hz]
  rfl

theorem flushed5_eq (c : Dev nD) (t : Fin cfg0.N) : (dats m 0 c).flushed 5 t = (win0_5.blk t).view.read (Elt Ideal) (yArray m c) := by
  show (cfg0.win 5).cut (grid0.coords t) ((dats m 0 c).after 5 t) = _
  rw [after0_5, out5_eq]
  funext y
  have e := (index_facts t).2.2.2.2.2.1
  show yArray m c _ = yArray m c _
  refine congrArg (yArray m c) (funext fun a => Fin.ext ?_)
  match a with
  | ⟨0, _⟩ => show (y 0).val = win0_5.index t 0 * 256 + 1 * (y 0).val; rw [e.1]; omega
  | ⟨1, _⟩ => show (y 1).val = win0_5.index t 1 * 18432 + 1 * (y 1).val; rw [e.2]; omega

theorem out6_eq (c : Dev nD) (t : Fin cfg0.N) :
    out0_6 (iblk m c 0 t) (iblk m c 1 t) (iblk m c 2 t) (iblk m c 3 t) (iblk m c 4 t) = codesArray m c := by
  have e : out0_6 (F := Ideal) (iblk m c 0 t) (iblk m c 1 t) (iblk m c 2 t) (iblk m c 3 t) (iblk m c 4 t)
      = out0_6 (V m c main_v0) (V m c main_v1) (V m c main_arg2) (V m c main_arg3) (V m c main_v2) := by
    have e0 := block0 m c t
    have e1 := block1 m c t
    have e2 := block2 m c t
    have e3 := block3 m c t
    have e4 := block4 m c t
    exact congr (congr (congr (congr (congrArg out0_6 e0) e1) e2) e3) e4
  rw [e]
  unfold out0_6 k0_pay7
  rw [View.canon_unit_zero hz, View.ld_unit_zero hz, View.ld_unit_zero hz]
  rfl

theorem flushed6_eq (c : Dev nD) (t : Fin cfg0.N) : (dats m 0 c).flushed 6 t = (win0_6.blk t).view.read (Elt Ideal) (codesArray m c) := by
  show (cfg0.win 6).cut (grid0.coords t) ((dats m 0 c).after 6 t) = _
  rw [after0_6, out6_eq]
  funext y
  have e := (index_facts t).2.2.2.2.2.2.1
  show codesArray m c _ = codesArray m c _
  refine congrArg (codesArray m c) (funext fun a => Fin.ext ?_)
  match a with
  | ⟨0, _⟩ => show (y 0).val = win0_6.index t 0 * 256 + 1 * (y 0).val; rw [e.1]; omega
  | ⟨1, _⟩ => show (y 1).val = win0_6.index t 1 * 7168 + 1 * (y 1).val; rw [e.2]; omega

theorem out7_eq (c : Dev nD) (t : Fin cfg0.N) :
    out0_7 (iblk m c 0 t) (iblk m c 1 t) (iblk m c 2 t) (iblk m c 3 t) (iblk m c 4 t) = scalesArray m c := by
  have e : out0_7 (F := Ideal) (iblk m c 0 t) (iblk m c 1 t) (iblk m c 2 t) (iblk m c 3 t) (iblk m c 4 t)
      = out0_7 (V m c main_v0) (V m c main_v1) (V m c main_arg2) (V m c main_arg3) (V m c main_v2) := by
    have e0 := block0 m c t
    have e1 := block1 m c t
    have e2 := block2 m c t
    have e3 := block3 m c t
    have e4 := block4 m c t
    exact congr (congr (congr (congr (congrArg out0_7 e0) e1) e2) e3) e4
  rw [e]
  unfold out0_7 k0_pay8
  rw [View.canon_unit_zero hz, View.ld_unit_zero hz, View.ld_unit_zero hz]
  rfl

theorem flushed7_eq (c : Dev nD) (t : Fin cfg0.N) : (dats m 0 c).flushed 7 t = (win0_7.blk t).view.read (Elt Ideal) (scalesArray m c) := by
  show (cfg0.win 7).cut (grid0.coords t) ((dats m 0 c).after 7 t) = _
  rw [after0_7, out7_eq]
  funext y
  have e := (index_facts t).2.2.2.2.2.2.2
  show scalesArray m c _ = scalesArray m c _
  refine congrArg (scalesArray m c) (funext fun a => Fin.ext ?_)
  match a with
  | ⟨0, _⟩ => show (y 0).val = win0_7.index t 0 * 256 + 1 * (y 0).val; rw [e.1]; omega
  | ⟨1, _⟩ => show (y 1).val = win0_7.index t 1 * 128 + 1 * (y 1).val; rw [e.2]; omega

theorem N_pos : 0 < cfg0.N := by rw [show cfg0.N = 1 from N_0]; decide

theorem cover5 (i : S256x18432.Idx) : ∃ t : Fin cfg0.N, (cfg0.win 5).flush t = true ∧ i ∈ ((cfg0.win 5).blk t).view.set := by
  have h0 : (i 0).val < 256 := (i 0).isLt
  have h1 : (i 1).val < 18432 := (i 1).isLt
  obtain ⟨t, ht⟩ : ∃ t : Fin cfg0.N, t.val = 0 := ⟨⟨0, N_pos⟩, rfl⟩
  refine ⟨t, flush0_5 t, ?_⟩
  show i ∈ ((View.whole main_v3_0).slice (win0_5.rect t)).set
  rw [View.set_slice_whole, Rect.mem_set_unit]
  intro a
  have e := (index_facts t).2.2.2.2.2.1
  have f := (size_facts t).1
  match a with
  | ⟨0, _⟩ =>
    show win0_5.index t 0 * 256 ≤ (i 0).val ∧ (i 0).val < win0_5.index t 0 * 256 + win0_5.xsize (grid0.coords t) 0
    rw [e.1, f.1]; omega
  | ⟨1, _⟩ =>
    show win0_5.index t 1 * 18432 ≤ (i 1).val ∧ (i 1).val < win0_5.index t 1 * 18432 + win0_5.xsize (grid0.coords t) 1
    rw [e.2, f.2]; omega

theorem cover6 (i : S256x7168.Idx) : ∃ t : Fin cfg0.N, (cfg0.win 6).flush t = true ∧ i ∈ ((cfg0.win 6).blk t).view.set := by
  have h0 : (i 0).val < 256 := (i 0).isLt
  have h1 : (i 1).val < 7168 := (i 1).isLt
  obtain ⟨t, ht⟩ : ∃ t : Fin cfg0.N, t.val = 0 := ⟨⟨0, N_pos⟩, rfl⟩
  refine ⟨t, flush0_6 t, ?_⟩
  show i ∈ ((View.whole main_v3_1).slice (win0_6.rect t)).set
  rw [View.set_slice_whole, Rect.mem_set_unit]
  intro a
  have e := (index_facts t).2.2.2.2.2.2.1
  have f := (size_facts t).2.1
  match a with
  | ⟨0, _⟩ =>
    show win0_6.index t 0 * 256 ≤ (i 0).val ∧ (i 0).val < win0_6.index t 0 * 256 + win0_6.xsize (grid0.coords t) 0
    rw [e.1, f.1]; omega
  | ⟨1, _⟩ =>
    show win0_6.index t 1 * 7168 ≤ (i 1).val ∧ (i 1).val < win0_6.index t 1 * 7168 + win0_6.xsize (grid0.coords t) 1
    rw [e.2, f.2]; omega

theorem cover7 (i : S256x128.Idx) : ∃ t : Fin cfg0.N, (cfg0.win 7).flush t = true ∧ i ∈ ((cfg0.win 7).blk t).view.set := by
  have h0 : (i 0).val < 256 := (i 0).isLt
  have h1 : (i 1).val < 128 := (i 1).isLt
  obtain ⟨t, ht⟩ : ∃ t : Fin cfg0.N, t.val = 0 := ⟨⟨0, N_pos⟩, rfl⟩
  refine ⟨t, flush0_7 t, ?_⟩
  show i ∈ ((View.whole main_v3_2).slice (win0_7.rect t)).set
  rw [View.set_slice_whole, Rect.mem_set_unit]
  intro a
  have e := (index_facts t).2.2.2.2.2.2.2
  have f := (size_facts t).2.2
  match a with
  | ⟨0, _⟩ =>
    show win0_7.index t 0 * 256 ≤ (i 0).val ∧ (i 0).val < win0_7.index t 0 * 256 + win0_7.xsize (grid0.coords t) 0
    rw [e.1, f.1]; omega
  | ⟨1, _⟩ =>
    show win0_7.index t 1 * 128 ≤ (i 1).val ∧ (i 1).val < win0_7.index t 1 * 128 + win0_7.xsize (grid0.coords t) 1
    rw [e.2, f.2]; omega

/-- The run of the reference, read: the three result arrays as functions of the arrays the region finds, the arguments unchanged. -/
theorem run_arrays : θ_run defs (onTc (τ := τ) (main (F := Ideal))) ⟨m, fun _ => 0, ρ⟩ fun r => ∀ c : Dev nD,
      r.2.mem ((c : Thread nD τ).loc main_v3_0) = yArray m c
      ∧ r.2.mem ((c : Thread nD τ).loc main_v3_1) = codesArray m c
      ∧ r.2.mem ((c : Thread nD τ).loc main_v3_2) = scalesArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans ((dats m 0 c).arrAt_eq_of_cover 5 (yArray m c) (fun t _ => flushed5_eq m c t) cover5),
      ((h c).1 6).trans ((dats m 0 c).arrAt_eq_of_cover 6 (codesArray m c) (fun t _ => flushed6_eq m c t) cover6),
      ((h c).1 7).trans ((dats m 0 c).arrAt_eq_of_cover 7 (scalesArray m c) (fun t _ => flushed7_eq m c t) cover7),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.Proof.Ref

end
-- ==== Proof.Lanes.Exponent.lean ====
/- The exponent of a row: the count of powers of two a value reaches, the scale and the reciprocal scale a count spells, against the
   exponent read off the logarithm. -/
module

public import proofs.«01_k».proof.Proof.Lanes.Rows

@[expose] public section

set_option maxRecDepth 16384

noncomputable section

namespace Cert.Proof

open Idealize.ShloMosaic

/-- The word with exponent field `k` and nothing else. -/
def powerWord (k : ℕ) : BitVec 32 := IntOp.shli ArithUnit.vector (BitVec.ofNat 32 k) 23#32

theorem powerWord_fields : ∀ k : Fin 256, (powerWord k.val).extractLsb' 31 1 = 0#1 ∧ ((powerWord k.val).extractLsb' 23 8).toNat = k.val
    ∧ ((powerWord k.val).extractLsb' 0 23).toNat = 0 := by decide +kernel

/-- A positive pattern with nonzero exponent field below the top and no fraction bits is a power of two. -/
theorem ieee_power (b : BitVec 32) (k : ℕ) (e1 : b.extractLsb' 31 1 = 0#1) (e2 : (b.extractLsb' 23 8).toNat = k)
    (e3 : (b.extractLsb' 0 23).toNat = 0) (h1 : 1 ≤ k) (h2 : k ≤ 254) : Ideal.ieee 8 23 b = (((2 : ℝ) ^ ((k : ℤ) - 127) : ℝ) : EReal) := by
  unfold Ideal.ieee
  simp only [Nat.reduceAdd, e1, e2, e3]
  rw [if_neg (by norm_num; omega), if_neg (by omega)]
  have hexp : ((k : ℤ) - (2 ^ (8 - 1) - 1) - ((23 : ℕ) : ℤ)) = ((k : ℤ) - 127) + (-23) := by norm_num; ring
  rw [hexp, zpow_add₀ (by norm_num : (2 : ℝ) ≠ 0)]
  generalize (2 : ℝ) ^ ((k : ℤ) - 127) = z
  congr 1
  have hs : (if (0#1 == 1#1) = true then (-1 : ℝ) else 1) = 1 := by simp
  rw [hs, show ((2 ^ 23 + 0 : ℕ) : ℝ) = 8388608 by norm_num, show ((2 : ℝ) ^ (-23 : ℤ)) = 1 / 8388608 by norm_num]
  ring

/-- A positive pattern with the top exponent field and no fraction bits is infinite. -/
theorem ieee_top (b : BitVec 32) (e1 : b.extractLsb' 31 1 = 0#1) (e2 : (b.extractLsb' 23 8).toNat = 255)
    (e3 : (b.extractLsb' 0 23).toNat = 0) : Ideal.ieee 8 23 b = ⊤ := by
  unfold Ideal.ieee
  simp only [Nat.reduceAdd, e1, e2, e3]
  simp

/-- Read as a float the word with exponent field `k` is a power of two. -/
theorem powerWord_value (k : ℕ) (h1 : 1 ≤ k) (h2 : k ≤ 254) : Ideal.ofBits .f32 (powerWord k) = (((2 : ℝ) ^ ((k : ℤ) - 127) : ℝ) : EReal) := by
  obtain ⟨e1, e2, e3⟩ := powerWord_fields ⟨k, by omega⟩
  exact ieee_power _ k e1 e2 e3 h1 h2

theorem fold_count {α : Type} [DecidableEq α] (p : α → Prop) [DecidablePred p] (s : Finset α) :
    Finset.fold IntOp.addi (0#32) (fun q => if p q then 1#32 else 0#32) s = BitVec.ofNat 32 (s.filter p).card := by
  classical
  induction s using Finset.induction_on with
  | empty => simp
  | insert a s ha ih =>
    rw [Finset.fold_insert ha, ih, Finset.filter_insert]
    by_cases h : p a
    · rw [if_pos h, if_pos h, Finset.card_insert_of_notMem (fun hm => ha (Finset.mem_filter.mp hm).1)]
      show 1#32 + _ = _
      rw [Nat.add_comm, BitVec.ofNat_add]
    · rw [if_neg h, if_neg h]
      show 0#32 + _ = _
      exact BitVec.zero_add _

/-- A value whose reached powers are those up to the `n`-th has count `n`. -/
theorem powerCount_of (r : ℝ) (n : ℕ) (hn : n ≤ 254) (h : ∀ k : ℕ, 1 ≤ k → k ≤ 254 → ((2 : ℝ) ^ ((k : ℤ) - 127) ≤ r ↔ k ≤ n)) :
    powerCount (r : EReal) = BitVec.ofNat 32 n := by
  have hlt : ∀ q : Fin 256, IntOp.cmpi CmpIPredicate.slt (BitVec.ofNat 32 q.val) 255#32 = BitVec.ofBool (decide (q.val < 255)) := by decide +kernel
  have hword : ∀ q : Fin 256, IntOp.addi (BitVec.ofNat 32 q.val) 1#32 = BitVec.ofNat 32 (q.val + 1) := by decide +kernel
  have htop : Ideal.ofBits .f32 (powerWord 255) = ⊤ := by
    obtain ⟨e1, e2, e3⟩ := powerWord_fields ⟨255, by omega⟩
    exact ieee_top _ e1 e2 e3
  have hq : ∀ q : Fin 256, Scalar.select
      (IntOp.andi (IntOp.cmpi CmpIPredicate.slt (BitVec.ofNat 32 q.val) 255#32)
        (BitVec.ofBool (decide (Ideal.ofBits FTy.f32 (IntOp.shli ArithUnit.vector (IntOp.addi (BitVec.ofNat 32 q.val) 1#32) 23#32) ≤ (r : EReal)))))
      1#32 0#32 = if q.val < n then 1#32 else 0#32 := by
    intro q
    rw [hlt, hword]
    have hle : decide (Ideal.ofBits FTy.f32 (powerWord (q.val + 1)) ≤ (r : EReal)) = decide (q.val < n) ∨ 255 ≤ q.val := by
      rcases Nat.lt_or_ge q.val 254 with hq | hq
      · left
        rw [powerWord_value _ (by omega) (by omega), decide_eq_decide, EReal.coe_le_coe_iff, h _ (by omega) (by omega)]
        omega
      · rcases Nat.lt_or_ge q.val 255 with hq' | hq'
        · left
          have hv : q.val + 1 = 255 := by omega
          rw [hv, htop, decide_eq_decide]
          constructor
          · intro h'; exact absurd (top_le_iff.mp h') (EReal.coe_ne_top r)
          · intro h'; omega
        · exact Or.inr hq'
    rcases hle with hle | hge
    · change Scalar.select (IntOp.andi _ (BitVec.ofBool (decide (Ideal.ofBits FTy.f32 (powerWord (q.val + 1)) ≤ (r : EReal))))) _ _ = _
      rw [hle]
      by_cases hc : q.val < n
      · rw [if_pos hc, decide_eq_true hc, decide_eq_true (show q.val < 255 by omega)]; rfl
      · rw [if_neg hc, decide_eq_false hc]
        cases decide (q.val < 255) <;> rfl
    · rw [decide_eq_false (show ¬ q.val < 255 by omega), if_neg (by omega)]
      cases decide (Ideal.ofBits FTy.f32 (IntOp.shli ArithUnit.vector (BitVec.ofNat 32 (q.val + 1)) 23#32) ≤ (r : EReal)) <;> rfl
  unfold powerCount
  simp only [hq]
  rw [fold_count]
  congr 1
  rw [show (Finset.univ.filter fun q : Fin 256 => q.val < n) = Finset.univ.filter (fun q : Fin 256 => q < ⟨n, by omega⟩) from rfl,
    Finset.filter_gt_eq_Iio, Fin.card_Iio]

theorem expoWord_of : ∀ n : Fin 256, 1 ≤ n.val → IntOp.subi (127#32) (expoWord (BitVec.ofNat 32 n.val)) = BitVec.ofNat 32 (253 - n.val)
    ∧ IntOp.addi (127#32) (expoWord (BitVec.ofNat 32 n.val)) = BitVec.ofNat 32 (n.val + 1) ∨ n.val = 0 ∨ 253 < n.val := by decide +kernel

theorem expoWord_zero : IntOp.subi (127#32) (expoWord (BitVec.ofNat 32 0)) = BitVec.ofNat 32 127
    ∧ IntOp.addi (127#32) (expoWord (BitVec.ofNat 32 0)) = BitVec.ofNat 32 127 := by decide +kernel

/-- The factor a code is multiplied by at a count. -/
def inverseOf (n : BitVec 32) : EReal := Ideal.ofBits FTy.f32 (IntOp.shli ArithUnit.vector (IntOp.subi (127#32) (expoWord n)) 23#32)

/-- One over 448. -/
def over448 : EReal := Ideal.ofBits FTy.f32 991054117#32

/-- The exponent read off the logarithm of the largest magnitude over 448; zero for a row of zeros. -/
def logExponent (a : EReal) : EReal :=
  Scalar.select (Ideal.cmp .oeq a (Ideal.ofBits FTy.f32 0#32)) (Ideal.ofBits FTy.f32 0#32)
    (Ideal.liftRound Int.floor (Ideal.div (Ideal.log (a * over448)) (Ideal.log (Ideal.ofBits FTy.f32 1073741824#32)))
      + Ideal.ofBits FTy.f32 1065353216#32)

theorem bits_zero : Ideal.ofBits FTy.f32 0#32 = 0 := by simp [Ideal.ofBits, Ideal.ieee]
theorem bits_one : Ideal.ofBits FTy.f32 1065353216#32 = ((1 : ℝ) : EReal) :=
  (powerWord_value 127 (by omega) (by omega)).trans (by norm_num)
theorem bits_two : Ideal.ofBits FTy.f32 1073741824#32 = ((2 : ℝ) : EReal) :=
  (powerWord_value 128 (by omega) (by omega)).trans (by norm_num)

theorem over448_pos : ∃ s : ℝ, 0 < s ∧ over448 = (s : EReal) := by
  refine ⟨(2 ^ 23 + 1198373 : ℕ) * (2 : ℝ) ^ (-32 : ℤ), by positivity, ?_⟩
  unfold over448 Ideal.ofBits Ideal.ieee
  simp [-EReal.coe_mul]

/-- The exponent of a value in range, from its integer logarithm. -/
theorem exponent_of (r : ℝ) (hlo : (2 : ℝ) ^ (-126 : ℤ) ≤ r) (hhi : r < (2 : ℝ) ^ (126 : ℤ)) :
    ∃ n : ℕ, 1 ≤ n ∧ n ≤ 252 ∧ powerCount (r : EReal) = BitVec.ofNat 32 n ∧ (n : ℤ) = ⌊Real.log r / Real.log 2⌋ + 127 := by
  have hr : 0 < r := lt_of_lt_of_le (by positivity) hlo
  have hl2 : 0 < Real.log 2 := Real.log_pos (by norm_num)
  have key (m : ℤ) : (2 : ℝ) ^ m ≤ r ↔ m ≤ ⌊Real.log r / Real.log 2⌋ := by
    rw [Int.le_floor, le_div_iff₀ hl2, ← Real.log_zpow, Real.log_le_log_iff (by positivity) hr]
  have hl := (key _).mp hlo
  have hh : ¬ (126 : ℤ) ≤ ⌊Real.log r / Real.log 2⌋ := fun h => absurd ((key _).mpr h) (not_le.mpr hhi)
  refine ⟨(⌊Real.log r / Real.log 2⌋ + 127).toNat, by omega, by omega, powerCount_of r _ (by omega) ?_, by omega⟩
  intro k h1 h2
  rw [key]
  omega

theorem log_two : Ideal.log (Ideal.ofBits FTy.f32 1073741824#32) = ((Real.log 2 : ℝ) : EReal) := by
  rw [bits_two]
  show (if (2 : ℝ) ≤ 0 then (⊥ : EReal) else ((Real.log 2 : ℝ) : EReal)) = _
  rw [if_neg (by norm_num)]

theorem mul_over448_eq_zero (a : EReal) : a * over448 = 0 ↔ a = 0 := by
  obtain ⟨s, hs, h⟩ := over448_pos
  rw [h]
  constructor
  · intro h0
    rcases mul_eq_zero.mp h0 with h1 | h1
    · exact h1
    · exact absurd (EReal.coe_eq_zero.mp h1) hs.ne'
  · rintro rfl; exact zero_mul _

/-- For a peak in range, the count spells the two powers of two of the exponent read off the logarithm. -/
theorem exponents_agree (a : EReal)
    (h : a * over448 = 0 ∨ Ideal.ofBits FTy.f32 8388608#32 ≤ a * over448 ∧ a * over448 < Ideal.ofBits FTy.f32 2122317824#32) :
    scaleOf (powerCount (a * over448)) = Ideal.exp2 (logExponent a)
      ∧ inverseOf (powerCount (a * over448)) = Ideal.exp2 (Ideal.ofBits FTy.f32 0#32 - logExponent a) := by
  have hexp (z : ℤ) : Ideal.exp2 (((z : ℝ)) : EReal) = (((2 : ℝ) ^ z : ℝ) : EReal) := by
    show ((Real.rpow 2 (z : ℝ) : ℝ) : EReal) = _
    exact congrArg _ (Real.rpow_intCast 2 z)
  by_cases h0 : a * over448 = 0
  · have ha : a = 0 := (mul_over448_eq_zero a).mp h0
    have he : logExponent a = (((0 : ℤ) : ℝ) : EReal) := by
      unfold logExponent
      rw [ha, bits_zero]
      simp [Ideal.cmp, Scalar.select]
    have hn : powerCount (a * over448) = BitVec.ofNat 32 0 := by
      rw [h0]
      refine powerCount_of 0 0 (by omega) fun k h1 h2 => ?_
      constructor
      · intro h'; exact absurd h' (not_le.mpr (by positivity))
      · intro h'; omega
    rw [he, hn, bits_zero, show (0 : EReal) - (((0 : ℤ) : ℝ) : EReal) = (((0 : ℤ) : ℝ) : EReal) by simp, hexp]
    unfold scaleOf inverseOf
    rw [expoWord_zero.1, expoWord_zero.2]
    have := powerWord_value 127 (by omega) (by omega)
    refine ⟨this.trans (by norm_num), this.trans (by norm_num)⟩
  · obtain ⟨hlo, hhi⟩ := h.resolve_left h0
    rw [show (8388608#32 : BitVec 32) = powerWord 1 from rfl, powerWord_value 1 (by omega) (by omega)] at hlo
    rw [show (2122317824#32 : BitVec 32) = powerWord 253 from rfl, powerWord_value 253 (by omega) (by omega)] at hhi
    obtain ⟨r, hr⟩ : ∃ r : ℝ, a * over448 = (r : EReal) := by
      refine ⟨(a * over448).toReal, (EReal.coe_toReal ?_ ?_).symm⟩
      · exact (lt_top_of_lt hhi).ne
      · exact (lt_of_lt_of_le (EReal.bot_lt_coe _) hlo).ne'
    rw [hr] at hlo hhi
    rw [EReal.coe_le_coe_iff] at hlo
    rw [EReal.coe_lt_coe_iff] at hhi
    have hpos : 0 < r := lt_of_lt_of_le (by positivity) hlo
    obtain ⟨n, h1, h2, hn, hz⟩ := exponent_of r (by simpa using hlo) (by simpa using hhi)
    have ha : a ≠ 0 := fun h' => h0 ((mul_over448_eq_zero a).mpr h')
    have hln : Real.log 2 ≠ 0 := (Real.log_pos (by norm_num)).ne'
    have he : logExponent a = ((((n : ℤ) - 126 : ℤ) : ℝ) : EReal) := by
      unfold logExponent
      have hc : Ideal.cmp CmpFPredicate.oeq a (Ideal.ofBits FTy.f32 0#32) = 0#1 := by
        rw [bits_zero]; simp [Ideal.cmp, ha]
      rw [hc, hr, log_two, Ideal.div_coe hln, bits_one]
      have hlog : Ideal.log (r : EReal) = ((Real.log r : ℝ) : EReal) := by
        show (if r ≤ 0 then (⊥ : EReal) else ((Real.log r : ℝ) : EReal)) = _
        rw [if_neg (not_le.mpr hpos)]
      rw [hlog, ← EReal.coe_mul, mul_one_div]
      show (((⌊Real.log r / Real.log 2⌋ : ℤ) : ℝ) : EReal) + ((1 : ℝ) : EReal) = _
      rw [← EReal.coe_add, hz]
      congr 1
      push_cast
      ring
    rw [he, hr, hn, bits_zero, hexp]
    rw [show (0 : EReal) - ((((n : ℤ) - 126 : ℤ) : ℝ) : EReal) = (((126 - (n : ℤ) : ℤ) : ℝ) : EReal) by
      rw [zero_sub, ← EReal.coe_neg]; congr 1; push_cast; ring, hexp]
    obtain ⟨e1, e2⟩ := (expoWord_of ⟨n, by omega⟩ h1).resolve_right (by dsimp only; omega)
    unfold scaleOf inverseOf
    dsimp only at e1 e2
    rw [e1, e2]
    refine ⟨(powerWord_value (n + 1) (by omega) (by omega)).trans ?_, (powerWord_value (253 - n) (by omega) (by omega)).trans ?_⟩
    · congr 2; push_cast; ring
    · congr 2; omega

end Cert.Proof

end
-- ==== Proof.Ref.Rows.lean ====
/- The reference's rows: norm, exponent, codes and scale at an index. -/
module

public import proofs.«01_k».proof.Proof.Gen.ReferenceIdeal.Skeleton
public import proofs.«01_k».proof.Proof.Lanes.Exponent

@[expose] public section

set_option maxRecDepth 16384

noncomputable section

namespace Cert.Proof.Ref

open Idealize.ShloMosaic Cert.ReferenceIdeal Cert.ReferenceIdeal.Facts₀ Cert.ReferenceIdeal.Facts
open Cert.ReferenceIdeal.Gen (k0_pay1 k0_pay2 k0_pay3 k0_pay4 k0_pay5)

theorem bits_7168 : Ideal.ofBits FTy.f32 1172307968#32 = ((7168 : ℝ) : EReal) := by
  simp [Ideal.ofBits, Ideal.ieee, -EReal.coe_mul]; norm_num

/-- Dividing a sum by the row's length is multiplying it by the named reciprocal. -/
theorem mean_eq (s : EReal) :
    Ideal.div s (Ideal.ofBits FTy.f32 1172307968#32) = s * (Named.named KernelIdeal.κ "inv_d" 957499685#32 : Ideal .f32) := by
  rw [bits_7168, Ideal.div_coe (by norm_num : (7168 : ℝ) ≠ 0)]
  exact congrArg (s * ·) (IdealRules.named_const.ideal_named_scalar _ _ _ _ rfl).symm

/-- The reference's normalised row. -/
theorem norm_apply (x : FVec Ideal S256x7168 .bf16) (w : FVec Ideal S1x7168 .f32) (r : Fin 256) (c : Fin 7168) :
    (k0_pay2 (F := Ideal) x w (ix2 r c) : EReal) = rowNorm (fun q => x (ix2 r q)) (fun q => w (ix2 0 q)) c := by
  pointwise [k0_pay2]
  rw [mean_eq]
  rfl

/-- The largest magnitude of the normalised row. -/
def rowMax (x w : Fin 7168 → EReal) : EReal :=
  Finset.fold max (Ideal.ofBits FTy.f32 4286578688#32) (fun q => (FloatOps.absf (F := Ideal) (φ := .f32) (rowNorm x w q) : EReal)) Finset.univ

theorem rowPeak_eq (x w : Fin 7168 → EReal) : rowPeak x w = rowMax x w * over448 := rfl

theorem logExponent_eq (a : EReal) : logExponent a
    = if a = 0 then 0 else Ideal.liftRound Int.floor (Ideal.div (Ideal.log (a * over448)) (Ideal.log (Ideal.ofBits FTy.f32 1073741824#32))) + 1 := by
  unfold logExponent
  rw [bits_zero, bits_one]
  by_cases h : a = 0
  · rw [if_pos h, h]; simp [Ideal.cmp, Scalar.select]
  · rw [if_neg h]
    have : Ideal.cmp CmpFPredicate.oeq a 0 = 0#1 := by simp [Ideal.cmp, h]
    rw [this]; rfl

/-- The reference's exponent of a row. -/
theorem expo_apply (x : FVec Ideal S256x7168 .bf16) (w : FVec Ideal S1x7168 .f32) (r : Fin 256) :
    (k0_pay3 (F := Ideal) x w (ix2 r 0) : EReal) = logExponent (rowMax (fun q => x (ix2 r q)) (fun q => w (ix2 0 q))) := by
  have h : (fun q => (FloatOps.absf (F := Ideal) (φ := .f32) (k0_pay2 (F := Ideal) x w (ix2 r q)) : EReal))
      = fun q => (FloatOps.absf (F := Ideal) (φ := .f32) (rowNorm (fun q => x (ix2 r q)) (fun q => w (ix2 0 q)) q) : EReal) :=
    funext fun q => congrArg _ (norm_apply x w r q)
  rw [logExponent_eq]
  unfold rowMax
  rw [← h]
  pointwise [k0_pay3]
  rfl

/-- The reference's codes. -/
theorem codes_apply (x : FVec Ideal S256x7168 .bf16) (w : FVec Ideal S1x7168 .f32) (r : Fin 256) (c : Fin 7168) :
    (k0_pay4 (F := Ideal) x w (ix2 r c) : EReal)
      = min (Ideal.ofBits FTy.f32 1138753536#32) (max (Ideal.ofBits FTy.f32 3286237184#32)
          (rowNorm (fun q => x (ix2 r q)) (fun q => w (ix2 0 q)) c
            * Ideal.exp2 (Ideal.ofBits FTy.f32 0#32 - logExponent (rowMax (fun q => x (ix2 r q)) (fun q => w (ix2 0 q)))))) := by
  rw [← norm_apply, ← expo_apply, bits_zero]
  pointwise [k0_pay4]
  rfl

/-- The reference's scale of a row. -/
theorem scale_apply (x : FVec Ideal S256x7168 .bf16) (w : FVec Ideal S1x7168 .f32) (r : Fin 256) :
    (k0_pay5 (F := Ideal) x w (ix2 r 0) : EReal) = Ideal.exp2 (logExponent (rowMax (fun q => x (ix2 r q)) (fun q => w (ix2 0 q)))) := by
  rw [← expo_apply]
  pointwise [k0_pay5]
  rfl

/-- A row's scale fills its lanes. -/
theorem lanes_apply (s : FVec Ideal S256x1 .f32) (r : Fin 256) (l : Fin 128) :
    (k0_pay1 (F := Ideal) s (ix2 r l) : EReal) = s (ix2 r 0) := by
  pointwise [k0_pay1]

end Cert.Proof.Ref

end
-- ==== Proof.Range.Read.lean ====
/- The precondition read back: every row's largest magnitude is in range, every group's two positions are in order. -/
module

public import proofs.«01_k».proof.Pre_in_range
public import proofs.«01_k».proof.Proof.Lanes.Exponent
public import proofs.«01_k».proof.Proof.Lanes.Dense
public import proofs.«01_k».proof.Proof.Ref.Rows
public import Idealize.ShloMosaic.Lib.KernelVsHost

@[expose] public section

set_option maxRecDepth 16384

noncomputable section

namespace Cert.Proof.Range

open Idealize.ShloMosaic Cert.Pre_in_range

/-- The side conditions the precondition's operations take. -/
theorem facts : Cert.Pre_in_range.Facts where
  shapeCasts_S2x128x7168_S256x7168 := by decide
  bitsLt_bf16_f32 := by decide
  reducesTo_S256x7168_S256_d1 := by decide
  h_S_ := by decide
  bcast_S256_S256x1_0 := by decide
  bcast_S_S256x1 := by decide
  bcast_S256x1_S256x7168_0_1 := by decide
  shapeCasts_S7168_S1x7168 := by decide
  bcast_S1x7168_S256x7168_0_1 := by decide
  reducesTo_S256x1_S_d0_1 := by decide
  bcast_S18432x224_S18432x224x1_0_1 := by decide
  bcast_S_S8 := by decide
  bcast_S8_S1x1x8_2 := by decide
  bcast_S18432x224x1_S18432x224x8_0_1_2 := by decide
  bcast_S1x1x8_S18432x224x8_0_1_2 := by decide
  bcast_S_S18432x224x8 := by decide
  reducesTo_S18432x224x8_S_d0_1_2 := by decide

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide

theorem fold_andi {ι : Type} (f : ι → BitVec 1) (l : List ι) : ∀ a, l.foldl (fun r n => IntOp.andi r (f n)) a = 1#1 → a = 1#1 ∧ ∀ n ∈ l, f n = 1#1 := by
  induction l with
  | nil => exact fun a h => ⟨h, fun n hn => absurd hn List.not_mem_nil⟩
  | cons n l ih =>
    intro a h
    obtain ⟨h1, h2⟩ := ih _ h
    obtain ⟨h3, h4⟩ := (andi_one _ _).mp h1
    exact ⟨h3, fun k hk => (List.mem_cons.mp hk).elim (fun e => e ▸ h4) (h2 k)⟩

/-- A conjunction over a whole array is one only if every element is. -/
theorem all_one {s : Shape} {axes : List (Fin s.rank)} (x : s.Idx → BitVec 1) (init : S_.Idx → BitVec 1) (h : s.ReducesTo axes S_)
    (hu : 0 < S_.numel) (j : S_.Idx) (e : Host.reduce IntOp.andi x init h hu j = 1#1) (i : s.Idx) : x i = 1#1 := by
  have hs : ∀ k : S_.Idx, k = j := fun k => funext fun a => a.elim0
  unfold Host.reduce at e
  have := (fold_andi (fun n => x (s.rowMajor.symm n)) _ _ e).2 (s.rowMajor i)
    (List.mem_filter.mpr ⟨List.mem_finRange _, decide_eq_true (hs _)⟩)
  simpa using this

/-- A row's largest magnitude over 448 is zero, or at least `2 ^ -126` and below `2 ^ 126`. -/
def InRange (a : EReal) : Prop :=
  a * over448 = 0 ∨ Ideal.ofBits FTy.f32 8388608#32 ≤ a * over448 ∧ a * over448 < Ideal.ofBits FTy.f32 2122317824#32

section
variable [Cert.Pre_in_range.Facts]
open Cert.Pre_in_range.Facts

/-- The normalised activations. -/
def normed (a0 : FVec Ideal S2x128x7168 .bf16) (a1 : FVec Ideal S7168 .f32) : FVec Ideal S256x7168 .f32 :=
  let x : FVec Ideal S256x7168 .f32 := extf .f32 (shapeCast S256x7168 a0 shapeCasts_S2x128x7168_S256x7168) bitsLt_bf16_f32
  mulf (mulf x (broadcastInDim S256x7168 ![0, 1] bcast_S256x1_S256x7168_0_1
      (Host.rsqrt (addf (Host.divf
        (broadcastInDim S256x1 ![0] bcast_S256_S256x1_0 (Host.reduceAdd (mulf x x) (constant S_ .f32 0x00000000#32) reducesTo_S256x7168_S256_d1 h_S_))
        (broadcastInDim S256x1 ![] bcast_S_S256x1 (constant S_ .f32 0x45E00000#32)))
        (broadcastInDim S256x1 ![] bcast_S_S256x1 (constant S_ .f32 0x358637BD#32))))))
    (broadcastInDim S256x7168 ![0, 1] bcast_S1x7168_S256x7168_0_1 (shapeCast S1x7168 a1 shapeCasts_S7168_S1x7168))

/-- Each row's largest magnitude. -/
def peak (n : FVec Ideal S256x7168 .f32) : FVec Ideal S256 .f32 :=
  Host.reduce FloatOps.maximumf (Host.absf n) (constant S_ .f32 0xFF800000#32) reducesTo_S256x7168_S256_d1 h_S_

/-- Each row's largest magnitude over 448. -/
def scaled (p : FVec Ideal S256 .f32) : FVec Ideal S256x1 .f32 :=
  mulf (broadcastInDim S256x1 ![0] bcast_S256_S256x1_0 p) (broadcastInDim S256x1 ![] bcast_S_S256x1 (constant S_ .f32 0x3B124925#32))

/-- Whether each is zero or in range. -/
def rowMask (t : FVec Ideal S256x1 .f32) : IVec S256x1 1 :=
  ori (cmpf .oeq t (broadcastInDim S256x1 ![] bcast_S_S256x1 (constant S_ .f32 0x00000000#32)))
    (andi (cmpf .oge t (broadcastInDim S256x1 ![] bcast_S_S256x1 (constant S_ .f32 0x00800000#32)))
      (cmpf .olt t (broadcastInDim S256x1 ![] bcast_S_S256x1 (constant S_ .f32 0x7E800000#32))))

/-- The shifted words of every group. -/
def shifted (a3 : IVec S18432x224 32) (p : IVec S8 32) : IVec S18432x224x8 32 :=
  andi (Host.shrsi (broadcastInDim S18432x224x8 ![0, 1, 2] bcast_S18432x224x1_S18432x224x8_0_1_2
        (broadcastInDim S18432x224x1 ![0, 1] bcast_S18432x224_S18432x224x1_0_1 a3))
      (broadcastInDim S18432x224x8 ![0, 1, 2] bcast_S1x1x8_S18432x224x8_0_1_2 (broadcastInDim S1x1x8 ![2] bcast_S8_S1x1x8_2 p)))
    (broadcastInDim S18432x224x8 ![] bcast_S_S18432x224x8 (constantI S_ 32 3#32))

/-- Whether each group's two positions are in order. -/
def groupMask (a3 : IVec S18432x224 32) : IVec S18432x224x8 1 :=
  cmpi .slt (shifted a3 (muli (broadcastInDim S8 ![] bcast_S_S8 (constantI S_ 32 4#32)) (iotaInDim S8 32 0)))
    (shifted a3 (addi (muli (broadcastInDim S8 ![] bcast_S_S8 (constantI S_ 32 4#32)) (iotaInDim S8 32 0))
      (broadcastInDim S8 ![] bcast_S_S8 (constantI S_ 32 2#32))))

theorem fn_eq (a0 : FVec Ideal S2x128x7168 .bf16) (a1 : FVec Ideal S7168 .f32) (a2 : FVec Ideal S18432x3584 .fp8e4m3)
    (a3 : IVec S18432x224 32) (a4 : FVec Ideal S18432 .f32) :
    fn (F := Ideal) a0 a1 a2 a3 a4
      = andi (Host.reduce IntOp.andi (rowMask (scaled (peak (normed a0 a1)))) (constantI S_ 1 1#1) reducesTo_S256x1_S_d0_1 h_S_)
          (Host.reduce IntOp.andi (groupMask a3) (constantI S_ 1 1#1) reducesTo_S18432x224x8_S_d0_1_2 h_S_) := rfl

theorem normed_apply (a0 : FVec Ideal S2x128x7168 .bf16) (a1 : FVec Ideal S7168 .f32) (r : Fin 256) (c : Fin 7168) :
    (normed a0 a1 (ix2 r c) : EReal) = rowNorm (fun q => shapeCast S256x7168 a0 shapeCasts_S2x128x7168_S256x7168 (ix2 r q))
      (fun q => shapeCast S1x7168 a1 shapeCasts_S7168_S1x7168 (ix2 0 q)) c := by
  unfold normed
  generalize shapeCast S256x7168 a0 shapeCasts_S2x128x7168_S256x7168 = X
  generalize shapeCast S1x7168 a1 shapeCasts_S7168_S1x7168 = W
  pointwise []
  rw [Ref.mean_eq]
  rfl

theorem peak_apply (n : FVec Ideal S256x7168 .f32) (r : Fin 256) :
    (peak n (ix1 r) : EReal) = Finset.fold max (Ideal.ofBits FTy.f32 4286578688#32)
      (fun q => (FloatOps.absf (F := Ideal) (φ := .f32) (n (ix2 r q)) : EReal)) Finset.univ := by
  pointwise [peak]

theorem rowMask_apply (p : FVec Ideal S256 .f32) (r : Fin 256) (h : rowMask (scaled p) (ix2 r 0) = 1#1) :
    (p (ix1 r) : EReal) * over448 = 0 ∨ Ideal.ofBits FTy.f32 8388608#32 ≤ (p (ix1 r) : EReal) * over448
      ∧ (p (ix1 r) : EReal) * over448 < Ideal.ofBits FTy.f32 2122317824#32 := by
  have e : rowMask (scaled p) (ix2 r 0) = IntOp.ori (Ideal.cmp .oeq ((p (ix1 r) : EReal) * over448) (Ideal.ofBits FTy.f32 0#32))
      (IntOp.andi (Ideal.cmp .oge ((p (ix1 r) : EReal) * over448) (Ideal.ofBits FTy.f32 8388608#32))
        (Ideal.cmp .olt ((p (ix1 r) : EReal) * over448) (Ideal.ofBits FTy.f32 2122317824#32))) := by
    pointwise [rowMask, scaled]
    rfl
  rw [e, bits_zero, ori_one, andi_one] at h
  have ofBool_one (b : Bool) : BitVec.ofBool b = 1#1 ↔ b = true := by cases b <;> decide
  simpa [Ideal.cmp, ofBool_one] using h

theorem groupMask_apply (a3 : IVec S18432x224 32) (r : Fin 18432) (q : Fin 224) (j : Fin 8) :
    groupMask a3 (ix3 r q j) = IntOp.cmpi .slt (firstPlace (a3 (ix2 r q)) j.val) (secondPlace (a3 (ix2 r q)) j.val) := by
  unfold groupMask shifted
  rw [hostShrsi_eq_shrsi, hostShrsi_eq_shrsi]
  pointwise []
  rfl

/-- The precondition, read: each row's largest magnitude over 448 is zero or in range, and each group's two positions are in order. -/
theorem of_pre (a0 : FVec Ideal S2x128x7168 .bf16) (a1 : FVec Ideal S7168 .f32) (a2 : FVec Ideal S18432x3584 .fp8e4m3)
    (a3 : IVec S18432x224 32) (a4 : FVec Ideal S18432 .f32) (h : fn (F := Ideal) a0 a1 a2 a3 a4 = fun _ => 1#1) :
    (∀ r : Fin 256,
      InRange (Ref.rowMax (fun q => shapeCast S256x7168 a0 shapeCasts_S2x128x7168_S256x7168 (ix2 r q))
        (fun q => shapeCast S1x7168 a1 shapeCasts_S7168_S1x7168 (ix2 0 q))))
    ∧ ∀ (r : Fin 18432) (q : Fin 224) (j : Fin 8),
      IntOp.cmpi .slt (firstPlace (a3 (ix2 r q)) j.val) (secondPlace (a3 (ix2 r q)) j.val) = 1#1 := by
  rw [fn_eq] at h
  have h0 := congrFun h (fun a => a.elim0)
  obtain ⟨h1, h2⟩ := (andi_one _ _).mp h0
  constructor
  · intro r
    have e := rowMask_apply _ r (all_one _ _ _ _ _ h1 (ix2 r 0))
    rw [peak_apply] at e
    have n : (fun q => (FloatOps.absf (F := Ideal) (φ := .f32) (normed a0 a1 (ix2 r q)) : EReal)) = _ :=
      funext fun q => congrArg _ (normed_apply a0 a1 r q)
    rw [n] at e
    exact e
  · intro r q j
    rw [← groupMask_apply]
    exact all_one _ _ _ _ _ h2 (ix3 r q j)
end

end Cert.Proof.Range

end
-- ==== Proof.Run.Entry.lean ====
/- What the kernel's region finds in the reshaped arrays. -/
module

public import proofs.«01_k».proof.Proof.Gen.KernelIdeal.Frame

@[expose] public section

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ)

/-- The region finds the activations as 256 rows. -/
theorem entry0 (c : Dev nD) : (V m c main_v0 : S256x7168.Idx → EReal)
    = shapeCast S256x7168 (m ((c : Thread nD τ).loc main_arg0) : S2x128x7168.Idx → EReal) shapeCasts_S2x128x7168_S256x7168 := by
  simp [V, hostOps0]
  rfl

/-- The region finds the norm's weights as one row. -/
theorem entry1 (c : Dev nD) : (V m c main_v1 : S1x7168.Idx → EReal)
    = shapeCast S1x7168 (m ((c : Thread nD τ).loc main_arg1) : S7168.Idx → EReal) shapeCasts_S7168_S1x7168 := by
  simp [V, hostOps0]
  rfl

/-- The region finds the columns' scales as one row. -/
theorem entry2 (c : Dev nD) : (V m c main_v2 : S1x18432.Idx → EReal)
    = shapeCast S1x18432 (m ((c : Thread nD τ).loc main_arg4) : S18432.Idx → EReal) shapeCasts_S18432_S1x18432 := by
  simp [V, hostOps0]
  rfl

end Cert.Proof

end
-- ==== Proof.Ref.Entry.lean ====
/- What the reference's region finds in the reshaped arrays. -/
module

public import proofs.«01_k».proof.Proof.Gen.ReferenceIdeal.Frame
public import Idealize.ShloMosaic.PureOps.Ideal

@[expose] public section

noncomputable section

namespace Cert.Proof.Ref

open Idealize.ShloMosaic Idealize.ShloMosaic.TcCoe Idealize.SL.Sem
open Cert.ReferenceIdeal Cert.ReferenceIdeal.Gen

variable (m : (ℓ : Loc nD τ sig) → Buf (Elt Ideal) ℓ)

/-- The region finds the activations as 256 rows. -/
theorem entry0 (c : Dev nD) : (V m c main_v0 : S256x7168.Idx → EReal)
    = shapeCast S256x7168 (m ((c : Thread nD τ).loc main_arg0) : S2x128x7168.Idx → EReal) shapeCasts_S2x128x7168_S256x7168 := by
  simp [V, hostOps0]
  rfl

/-- The region finds the norm's weights as one row. -/
theorem entry1 (c : Dev nD) : (V m c main_v1 : S1x7168.Idx → EReal)
    = shapeCast S1x7168 (m ((c : Thread nD τ).loc main_arg1) : S7168.Idx → EReal) shapeCasts_S7168_S1x7168 := by
  simp [V, hostOps0]
  rfl

/-- The region finds the columns' scales as one row. -/
theorem entry2 (c : Dev nD) : (V m c main_v2 : S1x18432.Idx → EReal)
    = shapeCast S1x18432 (m ((c : Thread nD τ).loc main_arg4) : S18432.Idx → EReal) shapeCasts_S18432_S1x18432 := by
  simp [V, hostOps0]
  rfl

end Cert.Proof.Ref

end
-- ==== Proof.Range.Agree.lean ====
/- Under the precondition the two programs' result arrays are equal, from memories that agree on the arguments. -/
module

public import proofs.«01_k».proof.Defs
public import proofs.«01_k».proof.Proof.Range.Read
public import proofs.«01_k».proof.Proof.Run.Arrays
public import proofs.«01_k».proof.Proof.Run.Entry
public import proofs.«01_k».proof.Proof.Ref.Arrays
public import proofs.«01_k».proof.Proof.Ref.Entry

@[expose] public section

set_option maxRecDepth 16384

noncomputable section

namespace Cert.Proof.Agree

open Idealize.ShloMosaic Idealize.ShloMosaic.TcCoe Idealize.SL.Sem
open Cert.KernelIdeal (nD τ sig S256x7168 S1x7168 S18432x224 S18432x3584 S256x128 S256x18432 S1x18432)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The codes of a row whose largest magnitude is in range. -/
theorem codes_eq (X : S256x7168.Idx → EReal) (W : S1x7168.Idx → EReal)
    (h : ∀ r : Fin 256, Range.InRange (Ref.rowMax (fun q => X (ix2 r q)) (fun q => W (ix2 0 q)))) :
    (Cert.ReferenceIdeal.Gen.k0_pay4 (F := Ideal) X W : S256x7168.Idx → EReal) = codesOf X W := by
  funext y
  obtain ⟨r, c, rfl⟩ : ∃ (r : Fin 256) (c : Fin 7168), y = ix2 r c := ⟨y 0, y 1, funext fun a => by fin_cases a <;> rfl⟩
  refine (Ref.codes_apply X W r c).trans ?_
  rw [← (exponents_agree _ (h r)).2]
  rfl

/-- The scales of rows whose largest magnitudes are in range. -/
theorem scales_eq (X : S256x7168.Idx → EReal) (W : S1x7168.Idx → EReal)
    (h : ∀ r : Fin 256, Range.InRange (Ref.rowMax (fun q => X (ix2 r q)) (fun q => W (ix2 0 q))))
    (r : Fin 256) (l : Fin 128) :
    (Cert.ReferenceIdeal.Gen.k0_pay5 (F := Ideal) X W (ix2 r 0) : EReal) = scalesOf X W (ix2 r l) := by
  refine (Ref.scale_apply X W r).trans ?_
  rw [← (exponents_agree _ (h r)).1]
  rfl

/-- The product against the dense operand is the sum of the two planes' products. -/
theorem product_eq (A : S256x7168.Idx → EReal) (s : (⟨2, ![256, 1]⟩ : Shape).Idx → EReal) (s' : S256x128.Idx → EReal)
    (I : S18432x224.Idx → BitVec 32) (U : S18432x3584.Idx → EReal) (W : S1x18432.Idx → EReal)
    (hs : ∀ r : Fin 256, s (ix2 r 0) = s' (ix2 r 0))
    (hp : ∀ (r : Fin 18432) (q : Fin 224) (j : Fin 8),
      IntOp.cmpi .slt (firstPlace (I (ix2 r q)) j.val) (secondPlace (I (ix2 r q)) j.val) = 1#1) :
    (Cert.ReferenceIdeal.Gen.k0_pay6 (F := Ideal) A s I U W : S256x18432.Idx → EReal)
      = fun y => (∑ x : Fin 3584, half outerCol A (ix2 (y 0) x) * outerOf (R := 18432) U I (ix2 (y 1) x)
          + ∑ x : Fin 3584, half innerCol A (ix2 (y 0) x) * innerOf (R := 18432) U I (ix2 (y 1) x))
          * s' (ix2 (y 0) 0) * W (ix2 0 (y 1)) := by
  funext y
  obtain ⟨r, c, rfl⟩ : ∃ (r : Fin 256) (c : Fin 18432), y = ix2 r c := ⟨y 0, y 1, funext fun a => by fin_cases a <;> rfl⟩
  refine (Ref.y_apply A s I U W r c).trans ?_
  rw [dense_sum U I c (hp c) (fun x => A (ix2 r x)), hs r]
  rfl

/-- From memories that agree on the arguments, under the precondition, the reference's three result arrays are the kernel's. -/
theorem arrays_eq (hp : Cert.Pre_in_range.Facts) (c : Dev nD)
    (hpre : Cert.Pre_in_range.fn (F := Ideal) (m ((c.tc : Thread nD τ).loc Cert.KernelIdeal.main_arg0)) (m ((c.tc : Thread nD τ).loc Cert.KernelIdeal.main_arg1))
      (m ((c.tc : Thread nD τ).loc Cert.KernelIdeal.main_arg2)) (m ((c.tc : Thread nD τ).loc Cert.KernelIdeal.main_arg3))
      (m ((c.tc : Thread nD τ).loc Cert.KernelIdeal.main_arg4)) = fun _ => 1#1)
    (e0 : m' ((c.tc : Thread Cert.ReferenceIdeal.nD Cert.ReferenceIdeal.τ).loc Cert.ReferenceIdeal.main_arg0) = m ((c.tc : Thread nD τ).loc Cert.KernelIdeal.main_arg0))
    (e1 : m' ((c.tc : Thread Cert.ReferenceIdeal.nD Cert.ReferenceIdeal.τ).loc Cert.ReferenceIdeal.main_arg1) = m ((c.tc : Thread nD τ).loc Cert.KernelIdeal.main_arg1))
    (e2 : m' ((c.tc : Thread Cert.ReferenceIdeal.nD Cert.ReferenceIdeal.τ).loc Cert.ReferenceIdeal.main_arg2) = m ((c.tc : Thread nD τ).loc Cert.KernelIdeal.main_arg2))
    (e3 : m' ((c.tc : Thread Cert.ReferenceIdeal.nD Cert.ReferenceIdeal.τ).loc Cert.ReferenceIdeal.main_arg3) = m ((c.tc : Thread nD τ).loc Cert.KernelIdeal.main_arg3))
    (e4 : m' ((c.tc : Thread Cert.ReferenceIdeal.nD Cert.ReferenceIdeal.τ).loc Cert.ReferenceIdeal.main_arg4) = m ((c.tc : Thread nD τ).loc Cert.KernelIdeal.main_arg4)) :
    (Ref.yArray m' c : S256x18432.Idx → EReal) = yArray m c ∧ (Ref.codesArray m' c : S256x7168.Idx → EReal) = codesArray m c
      ∧ (Ref.scalesArray m' c : S256x128.Idx → EReal) = scalesArray m c := by
  obtain ⟨hr, hg⟩ := Range.of_pre _ _ _ _ _ hpre
  have x0 : (Cert.ReferenceIdeal.Gen.V m' c Cert.ReferenceIdeal.main_v0 : S256x7168.Idx → EReal) = Cert.KernelIdeal.Gen.V m c Cert.KernelIdeal.main_v0 :=
    (Ref.entry0 m' c).trans ((congrArg (fun a => shapeCast S256x7168 a Cert.KernelIdeal.Gen.shapeCasts_S2x128x7168_S256x7168) e0).trans (entry0 m c).symm)
  have x1 : (Cert.ReferenceIdeal.Gen.V m' c Cert.ReferenceIdeal.main_v1 : S1x7168.Idx → EReal) = Cert.KernelIdeal.Gen.V m c Cert.KernelIdeal.main_v1 :=
    (Ref.entry1 m' c).trans ((congrArg (fun a => shapeCast S1x7168 a Cert.KernelIdeal.Gen.shapeCasts_S7168_S1x7168) e1).trans (entry1 m c).symm)
  have x2 : (Cert.ReferenceIdeal.Gen.V m' c Cert.ReferenceIdeal.main_v2 : S1x18432.Idx → EReal) = Cert.KernelIdeal.Gen.V m c Cert.KernelIdeal.main_v2 :=
    (Ref.entry2 m' c).trans ((congrArg (fun a => shapeCast S1x18432 a Cert.KernelIdeal.Gen.shapeCasts_S18432_S1x18432) e4).trans (entry2 m c).symm)
  have y2 : (Cert.ReferenceIdeal.Gen.V m' c Cert.ReferenceIdeal.main_arg2 : S18432x3584.Idx → EReal) = Cert.KernelIdeal.Gen.V m c Cert.KernelIdeal.main_arg2 :=
    (Cert.ReferenceIdeal.Gen.V_main_arg2 m' c).trans (e2.trans (Cert.KernelIdeal.Gen.V_main_arg2 m c).symm)
  have y3 : (Cert.ReferenceIdeal.Gen.V m' c Cert.ReferenceIdeal.main_arg3 : S18432x224.Idx → BitVec 32) = Cert.KernelIdeal.Gen.V m c Cert.KernelIdeal.main_arg3 :=
    (Cert.ReferenceIdeal.Gen.V_main_arg3 m' c).trans (e3.trans (Cert.KernelIdeal.Gen.V_main_arg3 m c).symm)
  have hr' : ∀ r : Fin 256, Range.InRange (Ref.rowMax (fun q => (Cert.KernelIdeal.Gen.V m c Cert.KernelIdeal.main_v0 : S256x7168.Idx → EReal) (ix2 r q))
        (fun q => (Cert.KernelIdeal.Gen.V m c Cert.KernelIdeal.main_v1 : S1x7168.Idx → EReal) (ix2 0 q))) := by
    rw [entry0, entry1]; exact hr
  have hg' : ∀ (r : Fin 18432) (q : Fin 224) (j : Fin 8),
      IntOp.cmpi .slt (firstPlace ((Cert.KernelIdeal.Gen.V m c Cert.KernelIdeal.main_arg3 : S18432x224.Idx → BitVec 32) (ix2 r q)) j.val)
        (secondPlace ((Cert.KernelIdeal.Gen.V m c Cert.KernelIdeal.main_arg3 : S18432x224.Idx → BitVec 32) (ix2 r q)) j.val) = 1#1 := by
    rw [Cert.KernelIdeal.Gen.V_main_arg3]; exact hg
  have ec : (Ref.codesArray m' c : S256x7168.Idx → EReal) = codesArray m c := by
    unfold Ref.codesArray codesArray
    rw [x0, x1]
    exact codes_eq _ _ hr'
  have es : ∀ (r : Fin 256) (l : Fin 128), (Ref.scaleColumn m' c (ix2 r 0) : EReal) = scalesArray m c (ix2 r l) := by
    intro r l
    unfold Ref.scaleColumn scalesArray
    rw [x0, x1]
    exact scales_eq _ _ hr' r l
  refine ⟨?_, ec, ?_⟩
  · have step := product_eq (codesArray m c) (Ref.scaleColumn m' c) (scalesArray m c) (Cert.KernelIdeal.Gen.V m c Cert.KernelIdeal.main_arg3)
      (Cert.KernelIdeal.Gen.V m c Cert.KernelIdeal.main_arg2) (Cert.KernelIdeal.Gen.V m c Cert.KernelIdeal.main_v2) (fun r => es r 0) hg'
    unfold Ref.yArray
    rw [ec, x2, y2, y3]
    exact step
  · funext y
    obtain ⟨r, l, rfl⟩ : ∃ (r : Fin 256) (l : Fin 128), y = ix2 r l := ⟨y 0, y 1, funext fun a => by fin_cases a <;> rfl⟩
    exact (Ref.lanes_apply _ r l).trans (es r l)

end Cert.Proof.Agree

end
-- ==== Proof.lean ====
module

public import proofs.«01_k».proof.Defs
public import proofs.«01_k».proof.Proof.Words.Frame
public import proofs.«01_k».proof.Proof.Run.Arrays
public import proofs.«01_k».proof.Proof.Ref.Arrays
public import proofs.«01_k».proof.Proof.Range.Agree

@[expose] public section

noncomputable section

namespace Cert.Proof

open Idealize.ShloMosaic Idealize.SL.Sem

/-- From memories that agree on the arguments, under the precondition, the kernel's idealization and the reference both run and end
    with equal results, codes and scales, their arguments unchanged. -/
theorem algebraic (hp : Cert.Pre_in_range.Facts) : Cert.algebraic_KernelIdeal_ReferenceIdeal_pre_in_range
    (hKernelIdeal := Cert.KernelIdeal.Gen.facts) (hReferenceIdeal := Cert.ReferenceIdeal.Gen.facts) (hPre_in_range := hp) :=
  fun m g m' g' hpre hag => ⟨fun c => yArray m c, fun c => codesArray m c, fun c => scalesArray m c, run_arrays m g,
    (θ_run _ _ _).mono (fun r h c => by
      obtain ⟨e0, e1, e2, e3, e4⟩ := hag c
      obtain ⟨ey, ec, es⟩ := Agree.arrays_eq m m' hp c (hpre c) e0 e1 e2 e3 e4
      obtain ⟨hy, hc, hs, ha⟩ := h c
      exact ⟨hy.trans ey, hc.trans ec, hs.trans es, ha⟩) (Ref.run_arrays m' g')⟩

/-- Everything the certificate claims. -/
theorem claim : Cert.Claim := ⟨Cert.Kernel.Gen.facts, Cert.KernelIdeal.Gen.facts, Cert.ReferenceIdeal.Gen.facts, Range.facts,
  fun m ρ _ => Cert.Kernel.Words.frame m ρ,
  fun m ρ _ => frame_kernelIdeal m ρ,
  fun m ρ _ => frame_kernelIdeal m ρ,
  fun m ρ _ => Cert.ReferenceIdeal.Gen.frame m ρ,
  fun m ρ _ => Cert.ReferenceIdeal.Gen.frame m ρ,
  IdealRules.named_const.statement Cert.KernelIdeal.κ "inv_d" .f32 0x39124925#32 ((1 / 7168 : ℝ) : EReal) rfl,
  algebraic Range.facts⟩

end Cert.Proof

end
